-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_seq_ids_in_order [hPre_seq_ids_in_order : Cert.Pre_seq_ids_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_seq_ids_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_seq_ids_in_order [hPre_seq_ids_in_order : Cert.Pre_seq_ids_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_seq_ids_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_seq_ids_in_order [hKernelIdeal : Cert.KernelIdeal.Facts] [hPre_seq_ids_in_order : Cert.Pre_seq_ids_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_seq_ids_in_order m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_seq_ids_in_order [hReferenceIdeal : Cert.ReferenceIdeal.Facts] [hPre_seq_ids_in_order : Cert.Pre_seq_ids_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_seq_ids_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_seq_ids_in_order [hKernelIdeal : Cert.KernelIdeal.Facts] [hReferenceIdeal : Cert.ReferenceIdeal.Facts] [hPre_seq_ids_in_order : Cert.Pre_seq_ids_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_seq_ids_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_seq_ids_in_order : Cert.Pre_seq_ids_in_order.Facts),
    quiescent_Kernel (hKernel := hKernel)
    ∧ quiescent_KernelIdeal (hKernelIdeal := hKernelIdeal)
    ∧ quiescent_KernelIdeal_pre_seq_ids_in_order (hKernelIdeal := hKernelIdeal) (hPre_seq_ids_in_order := hPre_seq_ids_in_order)
    ∧ quiescent_ReferenceIdeal (hReferenceIdeal := hReferenceIdeal)
    ∧ quiescent_ReferenceIdeal_pre_seq_ids_in_order (hReferenceIdeal := hReferenceIdeal) (hPre_seq_ids_in_order := hPre_seq_ids_in_order)
    ∧ preserves_Kernel_KernelIdeal
    ∧ algebraic_KernelIdeal_ReferenceIdeal_pre_seq_ids_in_order (hKernelIdeal := hKernelIdeal) (hReferenceIdeal := hReferenceIdeal) (hPre_seq_ids_in_order := hPre_seq_ids_in_order)
-- ==== Pre_seq_ids_in_order.lean ====
abbrev S128 : Shape := ⟨1, ![128]⟩
abbrev S128x1x4096 : Shape := ⟨3, ![128, 1, 4096]⟩
abbrev S128x16x4096 : Shape := ⟨3, ![128, 16, 4096]⟩
abbrev S_ : Shape := ⟨0, ![]⟩

class Facts : Prop where
  reducesTo_S128_S_d0 : S128.ReducesTo [0] S_
  h_S_ : 0 < S_.numel

variable [Facts]

def fn {F : FTy → Type} [FloatOps F] (main_arg0 : IVec S128 32) (main_arg1 : IVec S128 32) (main_arg2 : FVec F S128x1x4096 .f32) (main_arg3 : FVec F S128x16x4096 .f32) : IVec S_ 1 :=
  let main_v0 : IVec S128 32 := iotaInDim S128 32 0
  let main_v1 : IVec S128 1 := cmpi .eq main_arg0 main_v0
  let main_c : IVec S_ 1 := constantI S_ 1 1#1
  let main_v2 : IVec S_ 1 := (fun x v => Host.reduce IntOp.andi x v reducesTo_S128_S_d0 h_S_) main_v1 main_c
  main_v2
-- ==== Kernel.lean ====
abbrev S128 : Shape := ⟨1, ![128]⟩
abbrev S128x1x4096 : Shape := ⟨3, ![128, 1, 4096]⟩
abbrev S128x16x4096 : Shape := ⟨3, ![128, 16, 4096]⟩
abbrev S128x4096 : Shape := ⟨2, ![128, 4096]⟩
abbrev S2048x4096 : Shape := ⟨2, ![2048, 4096]⟩
abbrev S8 : Shape := ⟨1, ![8]⟩
abbrev S3x8x4096 : Shape := ⟨3, ![3, 8, 4096]⟩
abbrev S64x4096 : Shape := ⟨2, ![64, 4096]⟩
abbrev S_ : Shape := ⟨0, ![]⟩
abbrev S4x4096 : Shape := ⟨2, ![4, 4096]⟩
abbrev S16 : Shape := ⟨1, ![16]⟩
abbrev S1x8x4096 : Shape := ⟨3, ![1, 8, 4096]⟩
abbrev S8x4096 : Shape := ⟨2, ![8, 4096]⟩
abbrev S1x4096 : Shape := ⟨2, ![1, 4096]⟩

abbrev nBuf : Table → Nat
  | .hbm => 8
  | .shared => 1
  | .local .scVector .vmem => 2
  | _ => 0

abbrev bufTy : (tb : Table) → Fin (nBuf tb) → BufTy
  | .hbm, ⟨0, _⟩ => ⟨S128, .i32⟩
  | .hbm, ⟨1, _⟩ => ⟨S128, .i32⟩
  | .hbm, ⟨2, _⟩ => ⟨S128x1x4096, .f32⟩
  | .hbm, ⟨3, _⟩ => ⟨S128x16x4096, .f32⟩
  | .hbm, ⟨4, _⟩ => ⟨S128x4096, .f32⟩
  | .hbm, ⟨5, _⟩ => ⟨S2048x4096, .f32⟩
  | .hbm, ⟨6, _⟩ => ⟨S2048x4096, .f32⟩
  | .hbm, ⟨7, _⟩ => ⟨S128x16x4096, .f32⟩
  | .shared, ⟨0, _⟩ => ⟨S64x4096, .f32⟩
  | .local .scVector .vmem, ⟨0, _⟩ => ⟨S8, .i32⟩
  | .local .scVector .vmem, ⟨1, _⟩ => ⟨S3x8x4096, .f32⟩
  | _, _ => ⟨S128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1_scv : Ref sig .scVector := ⟨.hbm, 1, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c4_i32_0 : BitVec 32 := 4#32
  let v4 : BitVec 32 := Scalar.muli arg1 c4_i32_0
  let c0_i32 : BitVec 32 := 0#32
  ![v4.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_1 : BitVec 32 := 0#32
  ![v3.toNat, 0]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v7 : BitVec 32 := Scalar.shrsi v1 c1_i32
  let c8_i32 : BitVec 32 := 8#32
  let v8 : BitVec 32 := Scalar.muli v7 c8_i32
  ![v8.toNat]

def k0_chk1 (v15 : IVec S16 32) : Prop :=
  (∀ a x, ((![v15] : Fin 1 → IVec S16 32) a x).toNat < S8.size a)
theorem k0_idx1_inb : ∀ (v15 : IVec S16 32) (k0_hw1 : k0_chk1 v15), ∀ a x, ((![v15] : Fin 1 → IVec S16 32) a x).toNat < S8.size a := fun v15 k0_hw1 => k0_hw1
def k0_off4 (i : grid0.Coords) (c0_i32_24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v70 : BitVec 32 := Scalar.addi v2 c0_i32_24
  let c0_i32_38 : BitVec 32 := 0#32
  ![v70.toNat, 0]
def k0_off5 (i : grid0.Coords) : Fin 2 → Nat :=
  let arg1 : BitVec 32 := BitVec.ofNat 32 (i 1).val
  let c4_i32_0 : BitVec 32 := 4#32
  let v4 : BitVec 32 := Scalar.muli arg1 c4_i32_0
  let c0_i32_49 : BitVec 32 := 0#32
  ![v4.toNat, 0]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_50 : BitVec 32 := 0#32
  ![v3.toNat, 0]
def k0_off7 (v31 : BitVec 32) : Fin 2 → Nat :=
  let c7_i32 : BitVec 32 := 7#32
  let v33 : BitVec 32 := Scalar.andi v31 c7_i32
  let c0_i32_279_r1 : BitVec 32 := 0#32
  ![v33.toNat, 0]
def k0_cond1 (v31 : BitVec 32) : BitVec 1 :=
  let c3_i32_5 : BitVec 32 := 3#32
  let v32 : BitVec 32 := Scalar.shrsi v31 c3_i32_5
  let c0_i32_58 : BitVec 32 := 0#32
  let v106 : BitVec 1 := Scalar.cmpi .eq v32 c0_i32_58
  let v107 : BitVec 32 := Scalar.extui v106
  let c0_i32_59 : BitVec 32 := 0#32
  let v108 : BitVec 1 := Scalar.cmpi .ne v107 c0_i32_59
  v108

def k0_off8 (i : grid0.Coords) : Fin 2 → Nat :=
  let arg1 : BitVec 32 := BitVec.ofNat 32 (i 1).val
  let c4_i32_0 : BitVec 32 := 4#32
  let v4 : BitVec 32 := Scalar.muli arg1 c4_i32_0
  let c0_i32_275 : BitVec 32 := 0#32
  let v304 : BitVec 32 := Scalar.addi v4 c0_i32_275
  let c0_i32_280_r1 : BitVec 32 := 0#32
  ![v304.toNat, 0]
def k0_off9 (i : grid0.Coords) (c0_i32_27 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v78 : BitVec 32 := Scalar.addi v2 c0_i32_27
  let c0_i32_63 : BitVec 32 := 0#32
  ![v78.toNat, 0]
def k0_off10 (v31 : BitVec 32) : Fin 2 → Nat :=
  let c7_i32 : BitVec 32 := 7#32
  let v33 : BitVec 32 := Scalar.andi v31 c7_i32
  let c0_i32_279_r2 : BitVec 32 := 0#32
  ![v33.toNat, 0]
def k0_cond2 (v31 : BitVec 32) : BitVec 1 :=
  let c3_i32_5 : BitVec 32 := 3#32
  let v32 : BitVec 32 := Scalar.shrsi v31 c3_i32_5
  let c1_i32_81 : BitVec 32 := 1#32
  let v127 : BitVec 1 := Scalar.cmpi .eq v32 c1_i32_81
  let v128 : BitVec 32 := Scalar.extui v127
  let c0_i32_82 : BitVec 32 := 0#32
  let v129 : BitVec 1 := Scalar.cmpi .ne v128 c0_i32_82
  v129

def k0_chk2 (v31 : BitVec 32) : Prop :=
  (∀ (k0_h1 : k0_cond1 v31 = 1#1), ∀ a, (k0_off7 v31) a + S1x4096.size a ≤ S8x4096.size a) ∧
  (∀ (k0_h2 : k0_cond2 v31 = 1#1), ∀ a, (k0_off10 v31) a + S1x4096.size a ≤ S8x4096.size a)
theorem k0_off7_inb : ∀ (v31 : BitVec 32) (k0_hw2 : k0_chk2 v31), ∀ (k0_h1 : k0_cond1 v31 = 1#1), ∀ a, (k0_off7 v31) a + S1x4096.size a ≤ S8x4096.size a := fun v31 k0_hw2 k0_h1 => k0_hw2.1 k0_h1
theorem k0_off10_inb : ∀ (v31 : BitVec 32) (k0_hw2 : k0_chk2 v31), ∀ (k0_h2 : k0_cond2 v31 = 1#1), ∀ a, (k0_off10 v31) a + S1x4096.size a ≤ S8x4096.size a := fun v31 k0_hw2 k0_h2 => k0_hw2.2 k0_h2

def k0_off11 (i : grid0.Coords) : Fin 2 → Nat :=
  let arg1 : BitVec 32 := BitVec.ofNat 32 (i 1).val
  let c4_i32_0 : BitVec 32 := 4#32
  let v4 : BitVec 32 := Scalar.muli arg1 c4_i32_0
  let c0_i32_275 : BitVec 32 := 0#32
  let v304 : BitVec 32 := Scalar.addi v4 c0_i32_275
  let c0_i32_280_r2 : BitVec 32 := 0#32
  ![v304.toNat, 0]
def k0_off12 (v43 : BitVec 32) : Fin 2 → Nat :=
  let c7_i32_11 : BitVec 32 := 7#32
  let v45 : BitVec 32 := Scalar.andi v43 c7_i32_11
  let c0_i32_279_r3 : BitVec 32 := 0#32
  ![v45.toNat, 0]
def k0_cond3 (v43 : BitVec 32) : BitVec 1 :=
  let c3_i32_10 : BitVec 32 := 3#32
  let v44 : BitVec 32 := Scalar.shrsi v43 c3_i32_10
  let c2_i32_111 : BitVec 32 := 2#32
  let v154 : BitVec 1 := Scalar.cmpi .eq v44 c2_i32_111
  let v155 : BitVec 32 := Scalar.extui v154
  let c0_i32_112 : BitVec 32 := 0#32
  let v156 : BitVec 1 := Scalar.cmpi .ne v155 c0_i32_112
  v156

def k0_off13 (i : grid0.Coords) : Fin 2 → Nat :=
  let arg1 : BitVec 32 := BitVec.ofNat 32 (i 1).val
  let c4_i32_0 : BitVec 32 := 4#32
  let v4 : BitVec 32 := Scalar.muli arg1 c4_i32_0
  let c1_i32_275 : BitVec 32 := 1#32
  let v304 : BitVec 32 := Scalar.addi v4 c1_i32_275
  let c0_i32_280_r3 : BitVec 32 := 0#32
  ![v304.toNat, 0]
def k0_off14 (i : grid0.Coords) (c16_i32_29 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v80 : BitVec 32 := Scalar.addi v2 c16_i32_29
  let c0_i32_116 : BitVec 32 := 0#32
  ![v80.toNat, 0]
def k0_off15 (v43 : BitVec 32) : Fin 2 → Nat :=
  let c7_i32_11 : BitVec 32 := 7#32
  let v45 : BitVec 32 := Scalar.andi v43 c7_i32_11
  let c0_i32_279_r4 : BitVec 32 := 0#32
  ![v45.toNat, 0]
def k0_cond4 (v43 : BitVec 32) : BitVec 1 :=
  let c3_i32_10 : BitVec 32 := 3#32
  let v44 : BitVec 32 := Scalar.shrsi v43 c3_i32_10
  let c3_i32_141 : BitVec 32 := 3#32
  let v181 : BitVec 1 := Scalar.cmpi .eq v44 c3_i32_141
  let v182 : BitVec 32 := Scalar.extui v181
  let c0_i32_142 : BitVec 32 := 0#32
  let v183 : BitVec 1 := Scalar.cmpi .ne v182 c0_i32_142
  v183

def k0_chk3 (v43 : BitVec 32) : Prop :=
  (∀ (k0_h3 : k0_cond3 v43 = 1#1), ∀ a, (k0_off12 v43) a + S1x4096.size a ≤ S8x4096.size a) ∧
  (∀ (k0_h4 : k0_cond4 v43 = 1#1), ∀ a, (k0_off15 v43) a + S1x4096.size a ≤ S8x4096.size a)
theorem k0_off12_inb : ∀ (v43 : BitVec 32) (k0_hw3 : k0_chk3 v43), ∀ (k0_h3 : k0_cond3 v43 = 1#1), ∀ a, (k0_off12 v43) a + S1x4096.size a ≤ S8x4096.size a := fun v43 k0_hw3 k0_h3 => k0_hw3.1 k0_h3
theorem k0_off15_inb : ∀ (v43 : BitVec 32) (k0_hw3 : k0_chk3 v43), ∀ (k0_h4 : k0_cond4 v43 = 1#1), ∀ a, (k0_off15 v43) a + S1x4096.size a ≤ S8x4096.size a := fun v43 k0_hw3 k0_h4 => k0_hw3.2 k0_h4

def k0_off16 (i : grid0.Coords) : Fin 2 → Nat :=
  let arg1 : BitVec 32 := BitVec.ofNat 32 (i 1).val
  let c4_i32_0 : BitVec 32 := 4#32
  let v4 : BitVec 32 := Scalar.muli arg1 c4_i32_0
  let c1_i32_275 : BitVec 32 := 1#32
  let v304 : BitVec 32 := Scalar.addi v4 c1_i32_275
  let c0_i32_280_r4 : BitVec 32 := 0#32
  ![v304.toNat, 0]
def k0_off17 (v55 : BitVec 32) : Fin 2 → Nat :=
  let c7_i32_17 : BitVec 32 := 7#32
  let v57 : BitVec 32 := Scalar.andi v55 c7_i32_17
  let c0_i32_279_r5 : BitVec 32 := 0#32
  ![v57.toNat, 0]
def k0_cond5 (v55 : BitVec 32) : BitVec 1 :=
  let c3_i32_16 : BitVec 32 := 3#32
  let v56 : BitVec 32 := Scalar.shrsi v55 c3_i32_16
  let c4_i32_171 : BitVec 32 := 4#32
  let v208 : BitVec 1 := Scalar.cmpi .eq v56 c4_i32_171
  let v209 : BitVec 32 := Scalar.extui v208
  let c0_i32_172 : BitVec 32 := 0#32
  let v210 : BitVec 1 := Scalar.cmpi .ne v209 c0_i32_172
  v210

def k0_off18 (i : grid0.Coords) : Fin 2 → Nat :=
  let arg1 : BitVec 32 := BitVec.ofNat 32 (i 1).val
  let c4_i32_0 : BitVec 32 := 4#32
  let v4 : BitVec 32 := Scalar.muli arg1 c4_i32_0
  let c2_i32_275 : BitVec 32 := 2#32
  let v304 : BitVec 32 := Scalar.addi v4 c2_i32_275
  let c0_i32_280_r5 : BitVec 32 := 0#32
  ![v304.toNat, 0]
def k0_off19 (i : grid0.Coords) (c32_i32_31 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v82 : BitVec 32 := Scalar.addi v2 c32_i32_31
  let c0_i32_176 : BitVec 32 := 0#32
  ![v82.toNat, 0]
def k0_off20 (v55 : BitVec 32) : Fin 2 → Nat :=
  let c7_i32_17 : BitVec 32 := 7#32
  let v57 : BitVec 32 := Scalar.andi v55 c7_i32_17
  let c0_i32_279_r6 : BitVec 32 := 0#32
  ![v57.toNat, 0]
def k0_cond6 (v55 : BitVec 32) : BitVec 1 :=
  let c3_i32_16 : BitVec 32 := 3#32
  let v56 : BitVec 32 := Scalar.shrsi v55 c3_i32_16
  let c5_i32 : BitVec 32 := 5#32
  let v235 : BitVec 1 := Scalar.cmpi .eq v56 c5_i32
  let v236 : BitVec 32 := Scalar.extui v235
  let c0_i32_201 : BitVec 32 := 0#32
  let v237 : BitVec 1 := Scalar.cmpi .ne v236 c0_i32_201
  v237

def k0_chk4 (v55 : BitVec 32) : Prop :=
  (∀ (k0_h5 : k0_cond5 v55 = 1#1), ∀ a, (k0_off17 v55) a + S1x4096.size a ≤ S8x4096.size a) ∧
  (∀ (k0_h6 : k0_cond6 v55 = 1#1), ∀ a, (k0_off20 v55) a + S1x4096.size a ≤ S8x4096.size a)
theorem k0_off17_inb : ∀ (v55 : BitVec 32) (k0_hw4 : k0_chk4 v55), ∀ (k0_h5 : k0_cond5 v55 = 1#1), ∀ a, (k0_off17 v55) a + S1x4096.size a ≤ S8x4096.size a := fun v55 k0_hw4 k0_h5 => k0_hw4.1 k0_h5
theorem k0_off20_inb : ∀ (v55 : BitVec 32) (k0_hw4 : k0_chk4 v55), ∀ (k0_h6 : k0_cond6 v55 = 1#1), ∀ a, (k0_off20 v55) a + S1x4096.size a ≤ S8x4096.size a := fun v55 k0_hw4 k0_h6 => k0_hw4.2 k0_h6

def k0_off21 (i : grid0.Coords) : Fin 2 → Nat :=
  let arg1 : BitVec 32 := BitVec.ofNat 32 (i 1).val
  let c4_i32_0 : BitVec 32 := 4#32
  let v4 : BitVec 32 := Scalar.muli arg1 c4_i32_0
  let c2_i32_275 : BitVec 32 := 2#32
  let v304 : BitVec 32 := Scalar.addi v4 c2_i32_275
  let c0_i32_280_r6 : BitVec 32 := 0#32
  ![v304.toNat, 0]
def k0_off22 (v67 : BitVec 32) : Fin 2 → Nat :=
  let c7_i32_23 : BitVec 32 := 7#32
  let v69 : BitVec 32 := Scalar.andi v67 c7_i32_23
  let c0_i32_279_r7 : BitVec 32 := 0#32
  ![v69.toNat, 0]
def k0_cond7 (v67 : BitVec 32) : BitVec 1 :=
  let c3_i32_22 : BitVec 32 := 3#32
  let v68 : BitVec 32 := Scalar.shrsi v67 c3_i32_22
  let c6_i32 : BitVec 32 := 6#32
  let v262 : BitVec 1 := Scalar.cmpi .eq v68 c6_i32
  let v263 : BitVec 32 := Scalar.extui v262
  let c0_i32_230 : BitVec 32 := 0#32
  let v264 : BitVec 1 := Scalar.cmpi .ne v263 c0_i32_230
  v264

def k0_off23 (i : grid0.Coords) : Fin 2 → Nat :=
  let arg1 : BitVec 32 := BitVec.ofNat 32 (i 1).val
  let c4_i32_0 : BitVec 32 := 4#32
  let v4 : BitVec 32 := Scalar.muli arg1 c4_i32_0
  let c3_i32_275 : BitVec 32 := 3#32
  let v304 : BitVec 32 := Scalar.addi v4 c3_i32_275
  let c0_i32_280_r7 : BitVec 32 := 0#32
  ![v304.toNat, 0]
def k0_off24 (i : grid0.Coords) (c48_i32_33 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v84 : BitVec 32 := Scalar.addi v2 c48_i32_33
  let c0_i32_234 : BitVec 32 := 0#32
  ![v84.toNat, 0]
def k0_off25 (v67 : BitVec 32) : Fin 2 → Nat :=
  let c7_i32_23 : BitVec 32 := 7#32
  let v69 : BitVec 32 := Scalar.andi v67 c7_i32_23
  let c0_i32_279_r8 : BitVec 32 := 0#32
  ![v69.toNat, 0]
def k0_cond8 (v67 : BitVec 32) : BitVec 1 :=
  let c3_i32_22 : BitVec 32 := 3#32
  let v68 : BitVec 32 := Scalar.shrsi v67 c3_i32_22
  let c7_i32_245 : BitVec 32 := 7#32
  let v277 : BitVec 1 := Scalar.cmpi .eq v68 c7_i32_245
  let v278 : BitVec 32 := Scalar.extui v277
  let c0_i32_246 : BitVec 32 := 0#32
  let v279 : BitVec 1 := Scalar.cmpi .ne v278 c0_i32_246
  v279

def k0_chk5 (v67 : BitVec 32) : Prop :=
  (∀ (k0_h7 : k0_cond7 v67 = 1#1), ∀ a, (k0_off22 v67) a + S1x4096.size a ≤ S8x4096.size a) ∧
  (∀ (k0_h8 : k0_cond8 v67 = 1#1), ∀ a, (k0_off25 v67) a + S1x4096.size a ≤ S8x4096.size a)
theorem k0_off22_inb : ∀ (v67 : BitVec 32) (k0_hw5 : k0_chk5 v67), ∀ (k0_h7 : k0_cond7 v67 = 1#1), ∀ a, (k0_off22 v67) a + S1x4096.size a ≤ S8x4096.size a := fun v67 k0_hw5 k0_h7 => k0_hw5.1 k0_h7
theorem k0_off25_inb : ∀ (v67 : BitVec 32) (k0_hw5 : k0_chk5 v67), ∀ (k0_h8 : k0_cond8 v67 = 1#1), ∀ a, (k0_off25 v67) a + S1x4096.size a ≤ S8x4096.size a := fun v67 k0_hw5 k0_h8 => k0_hw5.2 k0_h8

def k0_off26 (i : grid0.Coords) : Fin 2 → Nat :=
  let arg1 : BitVec 32 := BitVec.ofNat 32 (i 1).val
  let c4_i32_0 : BitVec 32 := 4#32
  let v4 : BitVec 32 := Scalar.muli arg1 c4_i32_0
  let c3_i32_275 : BitVec 32 := 3#32
  let v304 : BitVec 32 := Scalar.addi v4 c3_i32_275
  let c0_i32_280_r8 : BitVec 32 := 0#32
  ![v304.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128 : Shape := ⟨1, ![128]⟩
abbrev S128x1x4096 : Shape := ⟨3, ![128, 1, 4096]⟩
abbrev S128x16x4096 : Shape := ⟨3, ![128, 16, 4096]⟩
abbrev S128x4096 : Shape := ⟨2, ![128, 4096]⟩
abbrev S_ : Shape := ⟨0, ![]⟩
abbrev S128x1 : Shape := ⟨2, ![128, 1]⟩
abbrev S128x2 : Shape := ⟨2, ![128, 2]⟩

abbrev nBuf : Space → Nat
  | .hbm => 45
  | .vmem => 0
  | .smem => 0
  | _ => 0

abbrev bufTy : (tb : Table) → Fin (tcTables nBuf tb) → BufTy
  | .hbm, ⟨0, _⟩ => ⟨S128, .i32⟩
  | .hbm, ⟨1, _⟩ => ⟨S128, .i32⟩
  | .hbm, ⟨2, _⟩ => ⟨S128x1x4096, .f32⟩
  | .hbm, ⟨3, _⟩ => ⟨S128x16x4096, .f32⟩
  | .hbm, ⟨4, _⟩ => ⟨S128x4096, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S_, .i32⟩
  | .hbm, ⟨20, _⟩ => ⟨S_, .i1⟩
  | .hbm, ⟨21, _⟩ => ⟨S128, .i1⟩
  | .hbm, ⟨22, _⟩ => ⟨S128, .i1⟩
  | .hbm, ⟨23, _⟩ => ⟨S128, .i1⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S128, .i32⟩
  | .hbm, ⟨41, _⟩ => ⟨S128x1, .i32⟩
  | .hbm, ⟨42, _⟩ => ⟨S128x1, .i32⟩
  | .hbm, ⟨43, _⟩ => ⟨S128x2, .i32⟩
  | .hbm, ⟨44, _⟩ => ⟨S128x16x4096, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_c_1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_c_2 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩

abbrev nD : Nat := 1
abbrev τ : Topo := Topo.v7x

variable {F : FTy → Type} [FloatOps F]
-- ==== Proof.Steps.lean ====
/-
  The steps a tile of the kernel is made of, each as one rule over what a memref READS: a local
  copy started, its wait, and the conditional copy of one row into a slot. A piece of memory is
  carried as `Has c m q X`: thread `c` holds the elements under the memref `m`, at share `q`, and
  `m` reads `X`. So the run of the body speaks of vectors only; where each piece sits in its buffer
  is met once, where the launch deals the pieces out.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton

@[expose] public section

noncomputable section

namespace Cert.Proof.Roll

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev 𝒱₀ : Variants := Variants.none

variable {sp sp' : Space} {s s' : Shape} {e : EltTy}

/-! ## Pieces of memory by what they read -/

/-- Thread `c` holds the elements under `m` at share `q`, and `m` reads `X` there. -/
def Has (c : Thread nD τ) (m : Memref sig c.2.kind sp s e) (q : PosShare TreeShare) (X : s.Idx → Elt F e) : sProp 𝕄 :=
  iprop(∃ g : Buf (Elt F) (m.view.loc c), ⌜m.view.read (Elt F) g = X⌝ ∗ m.view.loc c ↦[m.view.set]{q} g)

/-- Thread `c` holds the elements under `m` whole, at some contents. -/
def Room (c : Thread nD τ) (m : Memref sig c.2.kind sp s e) : sProp 𝕄 :=
  iprop(∃ g : Buf (Elt F) (m.view.loc c), m.view.loc c ↦[m.view.set]{fullShare} g)

theorem Has.room {c : Thread nD τ} {m : Memref sig c.2.kind sp s e} {X : s.Idx → Elt F e} :
    Has c m fullShare X ⊢ (Room c m : sProp 𝕄) := by
  unfold Has Room
  iintro ⟨%g, -, H⟩; iexists g; iexact H

/-- What thread `c` still owes, having waited only at the launch's own index besides `W`. -/
def Owed (c : Thread nD τ) (O : CellTallies nD τ sig (HIx 1)) (W : Waits sig (HIx 1)) : sProp 𝕄 :=
  iprop(∃ W' : Waits sig (HIx 1), ⌜∀ p ∈ W', p ∈ W ∨ p.2 = none⌝ ∗ owes c O W')

/-- A copy in flight on the semaphore `sm` of `c`, of `N` credits, delivering `D`. -/
abbrev Fly (c : Thread nD τ) (sm : DmaSem sig) (N : ℕ) (D : sProp 𝕄) : sProp 𝕄 :=
  Transfers.Flight (countersEmb (U := UU)) c (.dma sm) (none : HIx 1) N D

variable [FloatOps F]
variable {α : Type} (c : Thread nD τ)

/-- A local copy started: the source at a share, the destination whole, the semaphore at zero; in
    flight it will deliver the destination reading what the source reads, and the source. -/
theorem wp_start {Q : α → sProp 𝕄} {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig (Elt F) Λ₀ c.2) α} {q : PosShare TreeShare} {X : s.Idx → Elt F e} (hs : 0 < s.numel) :
    iprop(Has c src q X ∗ Room c dst ∗ semVal (c, .dma sm) 0)
      ⊢ iprop((Fly c sm dst.view.dmaCredit iprop(Has c dst fullShare X ∗ Has c src q X)
              -∗ wp frame (wpE (defs₀ (F := F)) 𝒱₀ c none) Set.univ (k ⟨⟩) Q)
          -∗ wp frame (wpE (defs₀ (F := F)) 𝒱₀ c none) Set.univ (.op (.enqueueDma src (.here dst) (.dma sm) hsrc hdst hsem) k) Q) := by
  unfold Has Room
  iintro ⟨⟨%fs, %hX, Hs⟩, ⟨%fd, Hd⟩, Hv⟩ Hk
  iapply (Transfers.wp_dmaLocal (countersEmb (U := UU)) 𝒱₀ c none (none : HIx 1) dst.view.dmaCredit rfl (View.dmaCredit_pos _ hs) (Finset.Subset.refl _)) $$ [Hs Hd Hv]
  · isplitl [Hs]; · iexact Hs
    isplitl [Hd]; · iexact Hd
    iexact Hv
  iintro Hf
  iapply Hk
  iapply (Transfers.Flight_mono (countersEmb (U := UU)) c ?_) $$ Hf
  iintro ⟨Hd, Hs⟩
  isplitl [Hd]
  · iexists _; isplitr
    swap; · iexact Hd
    ipureintro
    rw [View.read_write_univ]; exact hX
  · iexists fs; isplitr; · ipureintro; exact hX
    iexact Hs

/-- The wait for a copy in flight: what it delivers, and the semaphore back at zero. -/
theorem wp_wait {Q : α → sProp 𝕄} {sp₁ sp₂ : Space} {s₁ s₂ : Shape} {e₁ e₂ : EltTy} {sm : DmaSem sig}
    {srcw : Memref sig c.2.kind sp₁ s₁ e₁} {dstw : Memref sig c.2.kind sp₂ s₂ e₂} {hsrc : srcw.view.WordExact} {hdst : dstw.view.WordExact}
    {k : PUnit → Prog (TpuEff nD τ sig (Elt F) Λ₀ c.2) α} {N : ℕ} (hN : dstw.view.dmaCredit = N) {Dl : sProp 𝕄}
    {O : CellTallies nD τ sig (HIx 1)} {W : Waits sig (HIx 1)} :
    iprop(Fly c sm N Dl ∗ Owed c O W ∗ Transfers.MayWaits c (none : HIx 1) O)
      ⊢ iprop((iprop(Dl ∗ semVal (c, .dma sm) 0 ∗ Owed c O W) -∗ wp frame (wpE (defs₀ (F := F)) 𝒱₀ c none) Set.univ (k ⟨⟩) Q)
          -∗ wp frame (wpE (defs₀ (F := F)) 𝒱₀ c none) Set.univ (.op (.waitDma2 sm srcw dstw hsrc hdst) k) Q) := by
  unfold Owed
  iintro ⟨Hf, ⟨%W', %hW, HO⟩, Hmw⟩ Hk
  iapply (Transfers.wp_waitLocalO (countersEmb (U := UU)) 𝒱₀ c none (none : HIx 1) hN) $$ [Hf HO Hmw]
  · isplitl [Hf]; · iexact Hf
    isplitl [HO]; · iexact HO
    iapply (Transfers.MayWaits.elim (SemLoc.dma sm)) $$ Hmw
  iintro ⟨HD, Hv, HO⟩
  iapply Hk
  isplitl [HD]; · iexact HD
  isplitl [Hv]; · iexact Hv
  iexists _; isplitr
  swap; · iexact HO
  ipureintro
  intro p hp
  rcases Finset.mem_insert.mp hp with hp | hp
  · exact .inr (hp ▸ rfl)
  · exact hW p hp

/-- A slot's contents after the conditional copy: row `o` is `R` when `p` holds, all else is as it was. -/
def patched {A : Type} (p : Prop) [Decidable p] (o : ℕ) (R : S1x4096.Idx → A) (X : S8x4096.Idx → A) : S8x4096.Idx → A :=
  fun y => if p ∧ (y 0).val = o then R (Shape.pair (d := ![1, 4096]) (0 : Fin 1) (y 1)) else X y

/-- The one row written through a slot's row slice, read back through the slot. -/
theorem read_row_write {slot : Memref sig c.2.kind sp S8x4096 .f32} {off : Fin 2 → ℕ} {o : ℕ}
    (inb : ∀ a, off a + S1x4096.size a ≤ S8x4096.size a) (hoff : off = ![o, 0]) (f : Buf (Elt F) (slot.view.loc c))
    (R : S1x4096.Idx → Elt F .f32) :
    slot.view.read (Elt F) ((slot.slice (Rect.unit (s := S8x4096) off S1x4096.size inb) (fun _ => rfl)).view.write (Elt F) f R Finset.univ)
      = patched True o R (slot.view.read (Elt F) f) := by
  funext y
  rw [show (slot.slice (Rect.unit (s := S8x4096) off S1x4096.size inb) (fun _ => rfl)).view.write (Elt F) f R Finset.univ
      = slot.view.writes (Elt F) f [⟨Rect.unit (s := S8x4096) off S1x4096.size inb, R⟩] from (View.writes_singleton _ _ _ _).symm]
  unfold patched
  by_cases h : (y 0).val = o
  · rw [if_pos ⟨trivial, h⟩]
    exact View.read_writes_cons_rows_of_mem (d := ![8, 4096]) slot.view f inb R [] y (Shape.pair (d := ![1, 4096]) (0 : Fin 1) (y 1)) hoff
      (by rw [h]; rfl) rfl
  · rw [if_neg (fun h' => h h'.2)]
    exact View.read_writes_cons_rows_of_not_mem (d := ![8, 4096]) (W := 1) slot.view f inb R [] y hoff rfl (by omega)

/-- The conditional copy of one row into a slot, and its wait, whatever runs after: the slot reads `patched`. -/
theorem wp_patch {Q : α → sProp 𝕄} {p : Prop} [Decidable p] {slot : Memref sig c.2.kind sp S8x4096 .f32} {row row' row'' : Memref sig c.2.kind sp' S1x4096 .f32}
    (hrow : row = row') {off : Fin 2 → ℕ} {o : ℕ} (hoff : off = ![o, 0]) {inb : p → ∀ a, off a + S1x4096.size a ≤ S8x4096.size a} {sm : DmaSem sig}
    {h₁ : p → row.view.WordExact} {h₂ : ∀ h : p, (slot.slice (Rect.unit (s := S8x4096) off S1x4096.size (inb h)) (fun _ => rfl)).view.WordExact}
    {h₃ : ∀ h : p, DmaTarget.Typed (nD := nD) sp' (.dma sm) (.here (slot.slice (Rect.unit (s := S8x4096) off S1x4096.size (inb h)) (fun _ => rfl)))}
    {h₄ : p → row''.view.WordExact}
    {k : Prog (TpuEff nD τ sig (Elt F) Λ₀ c.2) α} {q : PosShare TreeShare} {X : S8x4096.Idx → Elt F .f32} {R : S1x4096.Idx → Elt F .f32}
    {O : CellTallies nD τ sig (HIx 1)} {W : Waits sig (HIx 1)} :
    iprop(Has c slot fullShare X ∗ Has c row' q R ∗ semVal (c, .dma sm) 0 ∗ Owed c O W ∗ Transfers.MayWaits c (none : HIx 1) O)
      ⊢ iprop((iprop(Has c slot fullShare (patched p o R X) ∗ Has c row' q R ∗ semVal (c, .dma sm) 0 ∗ Owed c O W)
              -∗ wp frame (wpE (defs₀ (F := F)) 𝒱₀ c none) Set.univ k Q)
          -∗ wp frame (wpE (defs₀ (F := F)) 𝒱₀ c none) Set.univ
            (if h : p then .op (.enqueueDma row (.here (slot.slice (Rect.unit (s := S8x4096) off S1x4096.size (inb h)) (fun _ => rfl))) (.dma sm) (h₁ h) (h₂ h) (h₃ h))
                fun _ => .op (.waitDma2 sm row'' (slot.slice (Rect.unit (s := S8x4096) off S1x4096.size (inb h)) (fun _ => rfl)) (h₄ h) (h₂ h)) fun _ => k
              else k) Q) := by
  subst hrow
  by_cases hp : p
  · simp only [dif_pos hp]
    unfold Has
    iintro ⟨⟨%fd, %hX, Hd⟩, ⟨%fs, %hR, Hs⟩, Hv, HO, #Hmw⟩ Hk
    iapply (Transfers.wp_dmaLocal (countersEmb (U := UU)) 𝒱₀ c none (none : HIx 1)
      (slot.slice (Rect.unit (s := S8x4096) off S1x4096.size (inb hp)) (fun _ => rfl)).view.dmaCredit rfl
      (View.dmaCredit_pos _ (show 0 < S1x4096.numel by decide)) (View.set_slice_subset (v := slot.view) _)) $$ [Hs Hd Hv]
    · isplitl [Hs]; · iexact Hs
      isplitl [Hd]; · iexact Hd
      iexact Hv
    iintro Hf
    iapply (wp_wait c (O := O) (W := W) rfl) $$ [Hf HO]
    · isplitl [Hf]; · iexact Hf
      isplitl [HO]; · iexact HO
      iexact Hmw
    iintro ⟨⟨Hd, Hs⟩, Hv, HO⟩
    iapply Hk
    isplitl [Hd]
    · iexists _; isplitr
      swap; · iexact Hd
      ipureintro
      refine (read_row_write c (inb hp) hoff fd _).trans ?_
      rw [hX, ← hR]
      unfold patched
      simp only [hp]
    isplitl [Hs]
    · iexists fs; isplitr; · ipureintro; exact hR
      iexact Hs
    isplitl [Hv]; · iexact Hv
    iexact HO
  · simp only [dif_neg hp]
    iintro ⟨Hd, Hs, Hv, HO, #Hmw⟩ Hk
    iapply Hk
    isplitl [Hd]
    · rw [show patched p o R X = X from funext fun y => if_neg (fun h => hp h.1)]
      iexact Hd
    isplitl [Hs]; · iexact Hs
    isplitl [Hv]; · iexact Hv
    iexact HO

end Cert.Proof.Roll

end
-- ==== Proof.Parts.lean ====
/-
  The eleven parts of a tile's body, over whatever memrefs and semaphores it is given. Chunk `ch` is
  eight rows; a part waits for a chunk to land in its slot, patches it, starts it out, and refills a
  slot whose chunk has gone out. Every copy has one counterpart wait, and no piece under a copy in
  flight is touched before that wait.
-/
module

public import proofs.«01_k».proof.Proof.Steps

@[expose] public section

set_option maxRecDepth 16384

noncomputable section

namespace Cert.Proof.Roll

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's coordinates and the pieces it works on -/

abbrev cV (i : grid0.Coords) : Fin τ.nSC := (i 0).castLE hcore0
abbrev jV (i : grid0.Coords) : Fin τ.nSub := (i 1).castLE hsub0

/-- A rectangle's offsets only matter by value: equal offsets, the same slice. -/
theorem slice_congr {κ : Kind} {sp : Space} {s : Shape} {e : EltTy} (m : Memref sig κ sp s e) {off off' size : Fin s.rank → ℕ} (h : off = off')
    (inb : ∀ a, off a + size a ≤ s.size a) (inb' : ∀ a, off' a + size a ≤ s.size a) :
    m.slice (Rect.unit off size inb) (fun _ => rfl) = m.slice (Rect.unit off' size inb') (fun _ => rfl) := by
  subst h; rfl

theorem i0_lt (i : grid0.Coords) : (i 0).val < 2 := (i 0).isLt
theorem i1_lt (i : grid0.Coords) : (i 1).val < 16 := (i 1).isLt

/-- Where chunk `ch` of tile `i` starts: eight rows down per chunk. -/
abbrev chunkOff (i : grid0.Coords) (ch : Fin 8) : Fin 2 → ℕ := ![128 * (i 1).val + 64 * (i 0).val + 8 * ch.val, 0]

theorem chunk_inb (i : grid0.Coords) (ch : Fin 8) : ∀ a, chunkOff i ch a + S8x4096.size a ≤ S2048x4096.size a :=
  Fin.forall_fin_two.mpr ⟨by
    show 128 * (i 1).val + 64 * (i 0).val + 8 * ch.val + 8 ≤ 2048
    have := i0_lt i; have := i1_lt i; have := ch.isLt; omega, show 0 + 4096 ≤ 4096 by omega⟩

/-- Chunk `ch` of tile `i` in a 2048-row buffer. -/
abbrev chunk {sp : Space} (m : Memref sig .scVector sp S2048x4096 .f32) (i : grid0.Coords) (ch : Fin 8) : Memref sig .scVector sp S8x4096 .f32 :=
  m.slice (Rect.unit (s := S2048x4096) (chunkOff i ch) S8x4096.size (chunk_inb i ch)) (fun _ => rfl)

/-- Where row `k` of the tile's four shared rows sits. -/
abbrev rowOff (i : grid0.Coords) (k : Fin 4) : Fin 2 → ℕ := ![4 * (i 1).val + k.val, 0]

theorem row_inb (i : grid0.Coords) (k : Fin 4) : ∀ a, rowOff i k a + S1x4096.size a ≤ S64x4096.size a :=
  Fin.forall_fin_two.mpr ⟨by
    show 4 * (i 1).val + k.val + 1 ≤ 64
    have := i1_lt i; have := k.isLt; omega, show 0 + 4096 ≤ 4096 by omega⟩

/-- Row `k` of the tile's four shared rows. -/
abbrev srow {sp : Space} (m : Memref sig .scVector sp S64x4096 .f32) (i : grid0.Coords) (k : Fin 4) : Memref sig .scVector sp S1x4096 .f32 :=
  m.slice (Rect.unit (s := S64x4096) (rowOff i k) S1x4096.size (row_inb i k)) (fun _ => rfl)

/-- The tile's four shared rows. -/
abbrev sblk {sp : Space} (m : Memref sig .scVector sp S64x4096 .f32) (i : grid0.Coords) : Memref sig .scVector sp S4x4096 .f32 :=
  m.slice (Rect.unit (s := S64x4096) (k0_off1 i) S4x4096.size (k0_off1_inb i)) (fun _ => rfl)

/-- The tile's four rows of new state. -/
abbrev hblk {sp : Space} (m : Memref sig .scVector sp S128x4096 .f32) (i : grid0.Coords) : Memref sig .scVector sp S4x4096 .f32 :=
  m.slice (Rect.unit (s := S128x4096) (k0_off2 i) S4x4096.size (k0_off2_inb i)) (fun _ => rfl)

/-- The eight positions the tile and its neighbour on the other core read. -/
abbrev pblk {sp : Space} (m : Memref sig .scVector sp S128 .i32) (i : grid0.Coords) : Memref sig .scVector sp S8 .i32 :=
  m.slice (Rect.unit (s := S128) (k0_off3 i) S8.size (k0_off3_inb i)) (fun _ => rfl)

/-- The three slots of the tile's scratch buffer. -/
abbrev slot0 {sp : Space} (m : Memref sig .scVector sp S3x8x4096 .f32) : Memref sig .scVector sp S8x4096 .f32 :=
  (m.slice (Rect.unit (s := S3x8x4096) ![0, 0, 0] S1x8x4096.size inb_S3x8x4096_S1x8x4096_0_0_0) (fun _ => rfl)).squeeze S8x4096 squeezes_S1x8x4096_S8x4096
abbrev slot1 {sp : Space} (m : Memref sig .scVector sp S3x8x4096 .f32) : Memref sig .scVector sp S8x4096 .f32 :=
  (m.slice (Rect.unit (s := S3x8x4096) ![1, 0, 0] S1x8x4096.size inb_S3x8x4096_S1x8x4096_1_0_0) (fun _ => rfl)).squeeze S8x4096 squeezes_S1x8x4096_S8x4096
abbrev slot2 {sp : Space} (m : Memref sig .scVector sp S3x8x4096 .f32) : Memref sig .scVector sp S8x4096 .f32 :=
  (m.slice (Rect.unit (s := S3x8x4096) ![2, 0, 0] S1x8x4096.size inb_S3x8x4096_S1x8x4096_2_0_0) (fun _ => rfl)).squeeze S8x4096 squeezes_S1x8x4096_S8x4096

section
variable {sp : Space} (m : Memref sig .scVector sp S2048x4096 .f32) (i : grid0.Coords)

/-- The program's own spellings of a chunk are that chunk. -/
theorem chunk_off4 (r : Fin 2) (inb) : m.slice (Rect.unit (s := S2048x4096) (k0_off4 i (BitVec.ofNat 32 (8 * r.val))) S8x4096.size inb) (fun _ => rfl)
    = chunk m i ⟨r.val, by omega⟩ := slice_congr m (k0_off4_eq i r) _ _
theorem chunk_off9 (r : Fin 4) (inb) : m.slice (Rect.unit (s := S2048x4096) (k0_off9 i (BitVec.ofNat 32 (8 * r.val))) S8x4096.size inb) (fun _ => rfl)
    = chunk m i ⟨r.val, by omega⟩ := slice_congr m (k0_off9_eq i r) _ _
theorem chunk_off14 (r : Fin 5) (inb) : m.slice (Rect.unit (s := S2048x4096) (k0_off14 i (BitVec.ofNat 32 (8 + 8 * r.val))) S8x4096.size inb) (fun _ => rfl)
    = chunk m i ⟨r.val + 1, by omega⟩ := slice_congr m ((k0_off14_eq i r).trans (congrArg (fun n => ![n, 0]) (by show _ = _ + 8 * (r.val + 1); omega))) _ _
theorem chunk_off19 (r : Fin 5) (inb) : m.slice (Rect.unit (s := S2048x4096) (k0_off19 i (BitVec.ofNat 32 (24 + 8 * r.val))) S8x4096.size inb) (fun _ => rfl)
    = chunk m i ⟨r.val + 3, by omega⟩ := slice_congr m ((k0_off19_eq i r).trans (congrArg (fun n => ![n, 0]) (by show _ = _ + 8 * (r.val + 3); omega))) _ _
theorem chunk_off24 (r : Fin 3) (inb) : m.slice (Rect.unit (s := S2048x4096) (k0_off24 i (BitVec.ofNat 32 (40 + 8 * r.val))) S8x4096.size inb) (fun _ => rfl)
    = chunk m i ⟨r.val + 5, by omega⟩ := slice_congr m ((k0_off24_eq i r).trans (congrArg (fun n => ![n, 0]) (by show _ = _ + 8 * (r.val + 5); omega))) _ _
end

variable [FloatOps F] (d : Dev nD) (i : grid0.Coords)

/-- The thread that runs the body at coordinates `i` of device `d`. -/
abbrev th (d : Dev nD) (i : grid0.Coords) : Thread nD τ := V d (cV i) (jV i)

/-- A chunk on its way into a slot. -/
abbrev FlyIn (sm : DmaSem sig) (slot : Memref sig .scVector .vmem S8x4096 .f32) (m : Memref sig .scVector .hbm S2048x4096 .f32) (ch : Fin 8)
    (X : S8x4096.Idx → Elt F .f32) : sProp 𝕄 :=
  Fly (th d i) sm slot.view.dmaCredit iprop(Has (th d i) slot fullShare X ∗ Has (th d i) (chunk m i ch) fullShare X)

/-- A slot on its way out to a chunk. -/
abbrev FlyOut (sm : DmaSem sig) (slot : Memref sig .scVector .vmem S8x4096 .f32) (m : Memref sig .scVector .hbm S2048x4096 .f32) (ch : Fin 8)
    (X : S8x4096.Idx → Elt F .f32) : sProp 𝕄 :=
  Fly (th d i) sm (chunk m i ch).view.dmaCredit iprop(Has (th d i) (chunk m i ch) fullShare X ∗ Has (th d i) slot fullShare X)

section Rules
variable (c : Thread nD τ)

/-- One turn of a slot: its chunk lands, and the conditional copy of one row patches it. -/
theorem wp_turn {α : Type} {sp sp₁ : Space} {Q : α → sProp 𝕄} {p : Prop} [Decidable p] {slot slotw : Memref sig c.2.kind .vmem S8x4096 .f32} {row row' row'' : Memref sig c.2.kind sp S1x4096 .f32}
    {srcw : Memref sig c.2.kind sp₁ S8x4096 .f32} (hrow : row = row') {off : Fin 2 → ℕ} {o : ℕ} (hoff : off = ![o, 0]) {N : ℕ} (hN : slotw.view.dmaCredit = N)
    {inb : p → ∀ a, off a + S1x4096.size a ≤ S8x4096.size a} {sm sr : DmaSem sig} {h₅ : srcw.view.WordExact} {h₆ : slotw.view.WordExact}
    {h₁ : p → row.view.WordExact} {h₂ : ∀ h : p, (slot.slice (Rect.unit (s := S8x4096) off S1x4096.size (inb h)) (fun _ => rfl)).view.WordExact}
    {h₃ : ∀ h : p, DmaTarget.Typed (nD := nD) sp (.dma sr) (.here (slot.slice (Rect.unit (s := S8x4096) off S1x4096.size (inb h)) (fun _ => rfl)))}
    {h₄ : p → row''.view.WordExact}
    {k : Prog (TpuEff nD τ sig (Elt F) Λ₀ c.2) α} {q : PosShare TreeShare} {X : S8x4096.Idx → Elt F .f32} {R : S1x4096.Idx → Elt F .f32}
    {D : sProp 𝕄} {O : CellTallies nD τ sig (HIx 1)} {W : Waits sig (HIx 1)} :
    iprop(Fly c sm N iprop(Has c slot fullShare X ∗ D) ∗ Has c row' q R ∗ semVal (c, .dma sr) 0 ∗ Owed c O W ∗ Transfers.MayWaits c (none : HIx 1) O)
      ⊢ iprop((iprop(Has c slot fullShare (patched p o R X) ∗ D ∗ semVal (c, .dma sm) 0 ∗ Has c row' q R ∗ semVal (c, .dma sr) 0 ∗ Owed c O W)
              -∗ wp frame (wpE (defs₀ (F := F)) 𝒱₀ c none) Set.univ k Q)
          -∗ wp frame (wpE (defs₀ (F := F)) 𝒱₀ c none) Set.univ
            (.op (.waitDma2 sm srcw slotw h₅ h₆) fun _ =>
            (if h : p then .op (.enqueueDma row (.here (slot.slice (Rect.unit (s := S8x4096) off S1x4096.size (inb h)) (fun _ => rfl))) (.dma sr) (h₁ h) (h₂ h) (h₃ h))
                fun _ => .op (.waitDma2 sr row'' (slot.slice (Rect.unit (s := S8x4096) off S1x4096.size (inb h)) (fun _ => rfl)) (h₄ h) (h₂ h)) fun _ => k
              else k)) Q) := by
  iintro ⟨Hf, Hr, Hv, HO, #Hmw⟩ Hk
  iapply (wp_wait c (O := O) (W := W) hN) $$ [Hf HO]
  · isplitl [Hf]; · iexact Hf
    isplitl [HO]; · iexact HO
    iexact Hmw
  iintro ⟨⟨Hd, HD⟩, Hs, HO⟩
  iapply (wp_patch c (O := O) (W := W) hrow hoff) $$ [Hd Hr Hv HO]
  · isplitl [Hd]; · iexact Hd
    isplitl [Hr]; · iexact Hr
    isplitl [Hv]; · iexact Hv
    isplitl [HO]; · iexact HO
    iexact Hmw
  iintro ⟨Hd, Hr, Hv, HO⟩
  iapply Hk
  isplitl [Hd]; · iexact Hd
  isplitl [HD]; · iexact HD
  isplitl [Hs]; · iexact Hs
  isplitl [Hr]; · iexact Hr
  isplitl [Hv]; · iexact Hv
  iexact HO

/-- A copy started whose two memrefs are given by other spellings of the ones held. -/
theorem wp_start' {α : Type} {sp sp' : Space} {s : Shape} {e : EltTy} {Q : α → sProp 𝕄} {src src' : Memref sig c.2.kind sp s e} {dst dst' : Memref sig c.2.kind sp' s e}
    (h : src = src') (h' : dst = dst') {sm : DmaSem sig}
    {hsrc : src.view.WordExact} {hdst : dst.view.WordExact} {hsem : DmaTarget.Typed (nD := nD) sp (.dma sm) (.here dst)}
    {k : PUnit → Prog (TpuEff nD τ sig (Elt F) Λ₀ c.2) α} {q : PosShare TreeShare} {X : s.Idx → Elt F e} (hs : 0 < s.numel) :
    iprop(Has c src' q X ∗ Room c dst' ∗ semVal (c, .dma sm) 0)
      ⊢ iprop((Fly c sm dst'.view.dmaCredit iprop(Has c dst' fullShare X ∗ Has c src' q X)
              -∗ wp frame (wpE (defs₀ (F := F)) 𝒱₀ c none) Set.univ (k ⟨⟩) Q)
          -∗ wp frame (wpE (defs₀ (F := F)) 𝒱₀ c none) Set.univ (.op (.enqueueDma src (.here dst) (.dma sm) hsrc hdst hsem) k) Q) := by
  subst h; subst h'; exact wp_start c hs

/-- A turn of a slot, and the patched slot started out. -/
theorem wp_turnOut {α : Type} {sp sp₁ sp₂ : Space} {Q : α → sProp 𝕄} {p : Prop} [Decidable p] {slot slotw : Memref sig c.2.kind .vmem S8x4096 .f32} {row row' row'' : Memref sig c.2.kind sp S1x4096 .f32}
    {srcw : Memref sig c.2.kind sp₁ S8x4096 .f32} {out out' : Memref sig c.2.kind sp₂ S8x4096 .f32} (hrow : row = row') (hout : out = out')
    {off : Fin 2 → ℕ} {o : ℕ} (hoff : off = ![o, 0]) {N : ℕ} (hN : slotw.view.dmaCredit = N)
    {inb : p → ∀ a, off a + S1x4096.size a ≤ S8x4096.size a} {sm sr so : DmaSem sig} {h₅ : srcw.view.WordExact} {h₆ : slotw.view.WordExact}
    {h₁ : p → row.view.WordExact} {h₂ : ∀ h : p, (slot.slice (Rect.unit (s := S8x4096) off S1x4096.size (inb h)) (fun _ => rfl)).view.WordExact}
    {h₃ : ∀ h : p, DmaTarget.Typed (nD := nD) sp (.dma sr) (.here (slot.slice (Rect.unit (s := S8x4096) off S1x4096.size (inb h)) (fun _ => rfl)))}
    {h₄ : p → row''.view.WordExact} {h₇ : slot.view.WordExact} {h₈ : out.view.WordExact} {h₉ : DmaTarget.Typed (nD := nD) .vmem (.dma so) (.here out)}
    {k : PUnit → Prog (TpuEff nD τ sig (Elt F) Λ₀ c.2) α} {q : PosShare TreeShare} {X : S8x4096.Idx → Elt F .f32} {R : S1x4096.Idx → Elt F .f32}
    {D : sProp 𝕄} {O : CellTallies nD τ sig (HIx 1)} {W : Waits sig (HIx 1)} :
    iprop((Fly c sm N iprop(Has c slot fullShare X ∗ D) ∗ Has c row' q R ∗ semVal (c, .dma sr) 0 ∗ Room c out' ∗ semVal (c, .dma so) 0)
        ∗ Owed c O W ∗ Transfers.MayWaits c (none : HIx 1) O)
      ⊢ iprop((iprop((Fly c so out'.view.dmaCredit iprop(Has c out' fullShare (patched p o R X) ∗ Has c slot fullShare (patched p o R X)) ∗ D ∗ semVal (c, .dma sm) 0
                ∗ Has c row' q R ∗ semVal (c, .dma sr) 0) ∗ Owed c O W)
              -∗ wp frame (wpE (defs₀ (F := F)) 𝒱₀ c none) Set.univ (k ⟨⟩) Q)
          -∗ wp frame (wpE (defs₀ (F := F)) 𝒱₀ c none) Set.univ
            (.op (.waitDma2 sm srcw slotw h₅ h₆) fun _ =>
            (if h : p then .op (.enqueueDma row (.here (slot.slice (Rect.unit (s := S8x4096) off S1x4096.size (inb h)) (fun _ => rfl))) (.dma sr) (h₁ h) (h₂ h) (h₃ h))
                fun _ => .op (.waitDma2 sr row'' (slot.slice (Rect.unit (s := S8x4096) off S1x4096.size (inb h)) (fun _ => rfl)) (h₄ h) (h₂ h)) fun _ => .op (.enqueueDma slot (.here out) (.dma so) h₇ h₈ h₉) k
              else .op (.enqueueDma slot (.here out) (.dma so) h₇ h₈ h₉) k)) Q) := by
  iintro ⟨⟨Hf, Hr, Hv, Ho, Hs⟩, HO, #Hmw⟩ Hk
  iapply (wp_turn c (O := O) (W := W) hrow hoff hN) $$ [Hf Hr Hv HO]
  · isplitl [Hf]; · iexact Hf
    isplitl [Hr]; · iexact Hr
    isplitl [Hv]; · iexact Hv
    isplitl [HO]; · iexact HO
    iexact Hmw
  iintro ⟨Hd, HD, Hm, Hr, Hv, HO⟩
  iapply (wp_start' c rfl hout (show 0 < S8x4096.numel by decide)) $$ [Hd Ho Hs]
  · isplitl [Hd]; · iexact Hd
    isplitl [Ho]; · iexact Ho
    iexact Hs
  iintro Hf
  iapply Hk
  isplitr [HO]
  · isplitl [Hf]; · iexact Hf
    isplitl [HD]; · iexact HD
    isplitl [Hm]; · iexact Hm
    isplitl [Hr]; · iexact Hr
    iexact Hv
  iexact HO

/-- A slot's way out waited for, and the slot refilled with another chunk. -/
theorem wp_refill {α : Type} {sp₁ sp₂ : Space} {s₁ s₂ : Shape} {e₁ e₂ : EltTy} {sp : Space} {Q : α → sProp 𝕄} {slot : Memref sig c.2.kind .vmem S8x4096 .f32} {src src' : Memref sig c.2.kind sp S8x4096 .f32}
    {srcw : Memref sig c.2.kind sp₁ s₁ e₁} {dstw : Memref sig c.2.kind sp₂ s₂ e₂} (hsrc : src = src') {N : ℕ} (hN : dstw.view.dmaCredit = N)
    {sm so : DmaSem sig} {h₁ : srcw.view.WordExact} {h₂ : dstw.view.WordExact} {h₃ : src.view.WordExact} {h₄ : slot.view.WordExact} {h₅ : DmaTarget.Typed (nD := nD) sp (.dma sm) (.here slot)}
    {k : PUnit → Prog (TpuEff nD τ sig (Elt F) Λ₀ c.2) α} {q : PosShare TreeShare} {X Y : S8x4096.Idx → Elt F .f32}
    {D : sProp 𝕄} {O : CellTallies nD τ sig (HIx 1)} {W : Waits sig (HIx 1)} :
    iprop((Fly c so N iprop(D ∗ Has c slot fullShare Y) ∗ Has c src' q X ∗ semVal (c, .dma sm) 0) ∗ Owed c O W ∗ Transfers.MayWaits c (none : HIx 1) O)
      ⊢ iprop((iprop((Fly c sm slot.view.dmaCredit iprop(Has c slot fullShare X ∗ Has c src' q X) ∗ D ∗ semVal (c, .dma so) 0) ∗ Owed c O W)
              -∗ wp frame (wpE (defs₀ (F := F)) 𝒱₀ c none) Set.univ (k ⟨⟩) Q)
          -∗ wp frame (wpE (defs₀ (F := F)) 𝒱₀ c none) Set.univ
            (.op (.waitDma2 so srcw dstw h₁ h₂) fun _ => .op (.enqueueDma src (.here slot) (.dma sm) h₃ h₄ h₅) k) Q) := by
  iintro ⟨⟨Hf, Hi, Hs⟩, HO, #Hmw⟩ Hk
  iapply (wp_wait c (O := O) (W := W) hN) $$ [Hf HO]
  · isplitl [Hf]; · iexact Hf
    isplitl [HO]; · iexact HO
    iexact Hmw
  iintro ⟨⟨HD, Hd⟩, Ho, HO⟩
  iapply (wp_start' c hsrc rfl (show 0 < S8x4096.numel by decide)) $$ [Hi Hd Hs]
  · isplitl [Hi]; · iexact Hi
    isplitl [Hd]; · iapply Has.room; iexact Hd
    iexact Hs
  iintro Hf
  iapply Hk
  isplitr [HO]
  · isplitl [Hf]; · iexact Hf
    isplitl [HD]; · iexact HD
    iexact Ho
  iexact HO

end Rules

variable (arg2 : Memref sig .scVector .hbm S128 .i32) (harg2 : arg2.IsWhole) (arg3 : Memref sig .scVector .hbm S128x4096 .f32) (harg3 : arg3.IsWhole)
  (arg4 : Memref sig .scVector .hbm S2048x4096 .f32) (harg4 : arg4.IsWhole) (arg5 : Memref sig .scVector .hbm S2048x4096 .f32) (harg5 : arg5.IsWhole)
  (arg6 : Memref sig .scVector .vmem S8 .i32) (harg6 : arg6.IsWhole) (arg7 : Memref sig .scVector .vmem S3x8x4096 .f32) (harg7 : arg7.IsWhole)
  (arg8 : Memref sig .scVector .shared S64x4096 .f32) (harg8 : arg8.IsWhole)
  (arg9 arg10 arg11 arg12 arg13 arg14 arg15 v304_r0 v305_r1 v305_r2 v305_r3 v305_r4 v305_r5 v305_r6 v305_r7 v305_r8 : DmaSems sig S_)

variable {O : CellTallies nD τ sig (HIx 1)} {W : Waits sig (HIx 1)}

theorem numel_pos : 0 < S8x4096.numel := by decide

/-! ## The stages a chunk goes through, with what the tile holds at each -/

/-- Chunk `ch` on its way in, with the row that may patch it and the room it will go out to. -/
abbrev Before (sm sr so : DmaSem sig) (slot : Memref sig .scVector .vmem S8x4096 .f32) (src dst : Memref sig .scVector .hbm S2048x4096 .f32) (ch : Fin 8)
    (row : Memref sig .scVector .shared S1x4096 .f32) (X : S8x4096.Idx → Elt F .f32) (R : S1x4096.Idx → Elt F .f32) : sProp 𝕄 :=
  iprop(FlyIn d i sm slot src ch X ∗ Has (th d i) row fullShare R ∗ semVal (th d i, .dma sr) 0 ∗ Room (th d i) (chunk dst i ch) ∗ semVal (th d i, .dma so) 0)

/-- The same chunk, patched, on its way out. -/
abbrev After (sm sr so : DmaSem sig) (slot : Memref sig .scVector .vmem S8x4096 .f32) (src dst : Memref sig .scVector .hbm S2048x4096 .f32) (ch : Fin 8)
    (row : Memref sig .scVector .shared S1x4096 .f32) (X : S8x4096.Idx → Elt F .f32) (R : S1x4096.Idx → Elt F .f32) (Y : S8x4096.Idx → Elt F .f32) : sProp 𝕄 :=
  iprop(FlyOut d i so slot dst ch Y ∗ Has (th d i) (chunk src i ch) fullShare X ∗ semVal (th d i, .dma sm) 0 ∗ Has (th d i) row fullShare R ∗ semVal (th d i, .dma sr) 0)

/-- A chunk on its way out, with the next chunk its slot will hold. -/
abbrev Leaving (so sm : DmaSem sig) (slot : Memref sig .scVector .vmem S8x4096 .f32) (src dst : Memref sig .scVector .hbm S2048x4096 .f32) (ch ch' : Fin 8)
    (Y X : S8x4096.Idx → Elt F .f32) : sProp 𝕄 :=
  iprop(FlyOut d i so slot dst ch Y ∗ Has (th d i) (chunk src i ch') fullShare X ∗ semVal (th d i, .dma sm) 0)

/-- The chunk gone out, the next on its way in. -/
abbrev Left (so sm : DmaSem sig) (slot : Memref sig .scVector .vmem S8x4096 .f32) (src dst : Memref sig .scVector .hbm S2048x4096 .f32) (ch ch' : Fin 8)
    (Y X : S8x4096.Idx → Elt F .f32) : sProp 𝕄 :=
  iprop(FlyIn d i sm slot src ch' X ∗ Has (th d i) (chunk dst i ch) fullShare Y ∗ semVal (th d i, .dma so) 0)

/-- Every row a patch writes is one of a slot's eight. -/
theorem and7_inb (v : BitVec 32) : ∀ a, (![(v &&& 7#32).toNat, 0] : Fin 2 → ℕ) a + S1x4096.size a ≤ S8x4096.size a :=
  Fin.forall_fin_two.mpr ⟨by
    show (v &&& 7#32).toNat + 1 ≤ 8
    have : (v &&& 7#32).toNat ≤ 7 := by rw [BitVec.toNat_and]; exact Nat.and_le_right
    omega, show 0 + 4096 ≤ 4096 by omega⟩

theorem chk2_all (v : BitVec 32) : k0_chk2 v := ⟨fun _ => and7_inb v, fun _ => and7_inb v⟩
theorem chk3_all (v : BitVec 32) : k0_chk3 v := ⟨fun _ => and7_inb v, fun _ => and7_inb v⟩
theorem chk4_all (v : BitVec 32) : k0_chk4 v := ⟨fun _ => and7_inb v, fun _ => and7_inb v⟩
theorem chk5_all (v : BitVec 32) : k0_chk5 v := ⟨fun _ => and7_inb v, fun _ => and7_inb v⟩

/-- Every lane's index into the eight positions is below eight, at every tile. -/
theorem chk1_lane : ∀ (i : grid0.Coords) (x : Fin 16), (k0_pay2 i (Shape.ofLane x)).toNat < 8 := by decide +kernel

theorem chk1_all (i : grid0.Coords) : k0_chk1 (k0_pay2 i) := by
  intro a x
  obtain rfl : a = 0 := Fin.eq_zero a
  have hx : x = Shape.ofLane (x 0) := funext fun a => by obtain rfl : a = 0 := Fin.eq_zero a; rfl
  rw [hx]
  exact chk1_lane i (x 0)

/-- A memref loaded whole reads what it reads. -/
theorem read_access_whole {κ : Kind} {sp : Space} {s : Shape} {e : EltTy} (m : Memref sig κ sp s e) (f : (m.access (.whole s)).ty.Contents (Elt F)) :
    (m.access (.whole s)).read (Elt F) f = m.view.read (Elt F) f := by
  funext x
  have hx : (Rect.whole s).emb x = x := funext fun a => Fin.ext (by show 0 + 1 * (x a).val = (x a).val; omega)
  exact congrArg (m.view.read (Elt F) f) hx

/-- The positions one vector of sixteen lanes holds: lane `l` the position of row `4 * (wid % 2) + l % 4` of the eight. -/
abbrev lanes (P : S8.Idx → Elt F .i32) : Vec F S16 .i32 := loadIdx P ![k0_pay2 i] (k0_idx1_inb (k0_pay2 i) (chk1_all i))

/-- The destination row, within the tile's 64, of each of the tile's four rows of new state. -/
abbrev dl0 (P : S8.Idx → Elt F .i32) : BitVec 32 := extractAt ![15] (k0_pay4 (F := F) (lanes i P)) inpos_S16_p15
abbrev dl1 (P : S8.Idx → Elt F .i32) : BitVec 32 := extractAt ![15] (k0_pay5 (iota .scVector S16 32 [0] iota_S16_d0_w32_scVector) (k0_pay3 (F := F) (lanes i P))) inpos_S16_p15
abbrev dl2 (P : S8.Idx → Elt F .i32) : BitVec 32 := extractAt ![15] (k0_pay6 (iota .scVector S16 32 [0] iota_S16_d0_w32_scVector) (k0_pay3 (F := F) (lanes i P))) inpos_S16_p15
abbrev dl3 (P : S8.Idx → Elt F .i32) : BitVec 32 := extractAt ![15] (k0_pay7 (iota .scVector S16 32 [0] iota_S16_d0_w32_scVector) (k0_pay3 (F := F) (lanes i P))) inpos_S16_p15

/-- Part 1: the tile's new rows asked for, the positions read, the first destination row found. -/
theorem part1 {Q : _ → sProp 𝕄} {q q' : PosShare TreeShare} {H : S4x4096.Idx → Elt F .f32} {P : S8.Idx → Elt F .i32} :
    iprop((Has (th d i) (hblk arg3 i) q H ∗ Room (th d i) (sblk arg8 i) ∗ semVal (th d i, .dma arg9.sem) 0)
        ∗ (Has (th d i) (pblk arg2 i) q' P ∗ Room (th d i) arg6 ∗ semVal (th d i, .dma v304_r0.sem) 0) ∗ Owed (th d i) O W ∗ Transfers.MayWaits (th d i) (none : HIx 1) O)
      ⊢ iprop((iprop(Fly (th d i) arg9.sem (sblk arg8 i).view.dmaCredit iprop(Has (th d i) (sblk arg8 i) fullShare H ∗ Has (th d i) (hblk arg3 i) q H)
              ∗ (Has (th d i) arg6 fullShare P ∗ Has (th d i) (pblk arg2 i) q' P ∗ semVal (th d i, .dma v304_r0.sem) 0 ∗ Owed (th d i) O W))
            -∗ Q ⟨Scalar.muli (Scalar.addi (Scalar.muli (BitVec.ofNat 32 (i 1).val) 2#32) (BitVec.ofNat 32 (i 0).val)) 64#32,
                Scalar.muli (BitVec.ofNat 32 (i 1).val) 4#32, iota .scVector S16 32 [0] iota_S16_d0_w32_scVector, k0_pay3 (F := F) (lanes i P), dl0 i P, chk2_all _⟩)
        -∗ wp frame (wpE (defs₀ (F := F)) 𝒱₀ (th d i) none) Set.univ (k0_part1 (F := F) i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8) Q) := by
  rw [k0_part1_eq_skeleton]
  unfold k0_part1_skel
  simp only [Prog.lift, Prog.bind_op, Prog.bind_ret, Prog.pure_eq_ret]
  iintro ⟨Hh, Hp, HO, #Hmw⟩ Hk
  iapply (wp_start' (th d i) rfl rfl (show 0 < S4x4096.numel by decide)) $$ Hh
  iintro Hf
  iapply (wp_start' (th d i) rfl rfl (show 0 < S8.numel by decide)) $$ Hp
  iintro Hp
  iapply (wp_wait (th d i) (O := O) (W := W) rfl) $$ [Hp HO]
  · isplitl [Hp]; · iexact Hp
    isplitl [HO]; · iexact HO
    iexact Hmw
  iintro ⟨⟨Hb, Hp⟩, Hv, HO⟩
  rw [wp_assume_of _ _ _ _ (chk1_all i)]
  unfold Has
  icases Hb with ⟨%g, %hg, Hb⟩
  iapply (SparseCore.wp_vectorLoadIdx 𝒱₀ (th d i) none Set.univ (base := arg6) (S := arg6.view.set) (q := fullShare) (View.set_slice_subset (v := arg6.view) _)) $$ Hb
  iintro Hb
  rw [read_access_whole arg6 g, hg]
  rw [wp_assume_of _ _ _ _ (chk2_all _)]
  rw [wp_ret]
  imodintro
  iapply Hk
  isplitl [Hf]; · iexact Hf
  isplitl [Hb]
  · iexists g; isplitr; · ipureintro; exact hg
    iexact Hb
  isplitl [Hp]; · iexact Hp
  isplitl [Hv]; · iexact Hv
  iexact HO

/-- Part 2: the other three destination rows. -/
theorem part2 {Q : _ → sProp 𝕄} (v9 v21 : IVec S16 32) (v31 : BitVec 32) :
    Q ⟨Scalar.shrsi v31 3#32, extractAt ![15] (k0_pay5 v9 v21) inpos_S16_p15, chk3_all _, Scalar.shrsi (extractAt ![15] (k0_pay5 v9 v21) inpos_S16_p15) 3#32,
        extractAt ![15] (k0_pay6 v9 v21) inpos_S16_p15, chk4_all _, Scalar.shrsi (extractAt ![15] (k0_pay6 v9 v21) inpos_S16_p15) 3#32,
        extractAt ![15] (k0_pay7 v9 v21) inpos_S16_p15, chk5_all _, Scalar.shrsi (extractAt ![15] (k0_pay7 v9 v21) inpos_S16_p15) 3#32, 7#32⟩
      ⊢ wp frame (wpE (defs₀ (F := F)) 𝒱₀ (th d i) none) Set.univ (k0_part2 (F := F) i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 v9 v21 v31) Q := by
  rw [k0_part2_eq_skeleton]
  unfold k0_part2_skel
  simp only [Prog.lift, Prog.bind_op, Prog.bind_ret, Prog.pure_eq_ret]
  rw [wp_assume_of _ _ _ _ (chk3_all _), wp_assume_of _ _ _ _ (chk4_all _), wp_assume_of _ _ _ _ (chk5_all _), wp_ret]
  iintro H
  imodintro
  iexact H

/-- Part 3: chunk 0 asked for. -/
theorem part3 {Q : PUnit → sProp 𝕄} (v2 v67 c7 : BitVec 32) {X : S8x4096.Idx → Elt F .f32} :
    iprop(Has (th d i) (chunk arg4 i 0) fullShare X ∗ Room (th d i) (slot0 arg7) ∗ semVal (th d i, .dma arg10.sem) 0)
      ⊢ iprop((FlyIn d i arg10.sem (slot0 arg7) arg4 0 X -∗ Q ⟨⟩)
        -∗ wp frame (wpE (defs₀ (F := F)) 𝒱₀ (th d i) none) Set.univ (k0_part3 (F := F) i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 v2 v67 c7) Q) := by
  rw [k0_part3_eq_skeleton]
  unfold k0_part3_skel
  simp only [Prog.lift, Prog.bind_op, Prog.bind_ret, Prog.pure_eq_ret]
  iintro H Hk
  iapply (wp_start' (th d i) (chunk_off4 arg4 i 0 _) rfl numel_pos) $$ H
  iintro H
  rw [wp_ret]
  imodintro
  iapply Hk
  iexact H

/-- Part 4: chunk 1 asked for; the tile's shared rows landed, chunk 0 turned and started out; chunk 2 asked for. -/
theorem part4 {Q : PUnit → sProp 𝕄} (v4 v31 : BitVec 32) (hw : k0_chk2 v31) (v32 : BitVec 32)
    {X₀ X₁ X₂ : S8x4096.Idx → Elt F .f32} {R : S1x4096.Idx → Elt F .f32} {D : sProp 𝕄} :
    iprop((Has (th d i) (chunk arg4 i 1) fullShare X₁ ∗ Room (th d i) (slot1 arg7) ∗ semVal (th d i, .dma arg11.sem) 0)
        ∗ Fly (th d i) arg9.sem (sblk arg8 i).view.dmaCredit iprop(Has (th d i) (srow arg8 i 0) fullShare R ∗ D)
        ∗ (FlyIn d i arg10.sem (slot0 arg7) arg4 0 X₀ ∗ semVal (th d i, .dma v305_r1.sem) 0 ∗ Room (th d i) (chunk arg5 i 0) ∗ semVal (th d i, .dma arg13.sem) 0)
        ∗ (Has (th d i) (chunk arg4 i 2) fullShare X₂ ∗ Room (th d i) (slot2 arg7) ∗ semVal (th d i, .dma arg12.sem) 0)
        ∗ Owed (th d i) O W ∗ Transfers.MayWaits (th d i) (none : HIx 1) O)
      ⊢ iprop((iprop(FlyIn d i arg11.sem (slot1 arg7) arg4 1 X₁ ∗ (D ∗ semVal (th d i, .dma arg9.sem) 0)
              ∗ After d i arg10.sem v305_r1.sem arg13.sem (slot0 arg7) arg4 arg5 0 (srow arg8 i 0) X₀ R (patched (k0_cond1 v31 = 1#1) (v31 &&& 7#32).toNat R X₀)
              ∗ FlyIn d i arg12.sem (slot2 arg7) arg4 2 X₂ ∗ Owed (th d i) O W) -∗ Q ⟨⟩)
        -∗ wp frame (wpE (defs₀ (F := F)) 𝒱₀ (th d i) none) Set.univ (k0_part4 (F := F) i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 v4 v31 hw v32) Q) := by
  rw [k0_part4_eq_skeleton]
  unfold k0_part4_skel
  simp only [Prog.lift, Prog.bind_op, Prog.bind_ret, Prog.pure_eq_ret]
  iintro ⟨H1, H9, ⟨H0, Hv, Ho, Hs⟩, H2, HO, #Hmw⟩ Hk
  iapply (wp_start' (th d i) (chunk_off4 arg4 i 1 _) rfl numel_pos) $$ H1
  iintro H1
  iapply (wp_wait (th d i) (O := O) (W := W) rfl) $$ [H9 HO]
  · isplitl [H9]; · iexact H9
    isplitl [HO]; · iexact HO
    iexact Hmw
  iintro ⟨⟨Hr, HD⟩, H9, HO⟩
  iapply (wp_turnOut (th d i) (O := O) (W := W) (slice_congr arg8 (k0_off8_eq i) _ (row_inb i 0)) (chunk_off9 arg5 i 0 _) rfl rfl) $$ [H0 Hr Hv Ho Hs HO]
  · isplitr [HO]
    · isplitl [H0]; · iexact H0
      isplitl [Hr]; · iexact Hr
      isplitl [Hv]; · iexact Hv
      isplitl [Ho]; · iexact Ho
      iexact Hs
    isplitl [HO]; · iexact HO
    iexact Hmw
  iintro ⟨HA, HO⟩
  iapply (wp_start' (th d i) (chunk_off9 arg4 i 2 _) rfl numel_pos) $$ H2
  iintro H2
  rw [wp_ret]
  imodintro
  iapply Hk
  isplitl [H1]; · iexact H1
  isplitl [HD H9]
  · isplitl [HD]; · iexact HD
    iexact H9
  isplitl [HA]; · iexact HA
  isplitl [H2]; · iexact H2
  iexact HO

/-- Part 5: chunk 1 turned and started out, chunk 0 gone out, chunk 3 asked for. -/
theorem part5 {Q : PUnit → sProp 𝕄} (v4 v31 : BitVec 32) (hw : k0_chk2 v31) (v32 : BitVec 32)
    {X Y X' : S8x4096.Idx → Elt F .f32} {R : S1x4096.Idx → Elt F .f32} :
    iprop(Before d i arg11.sem v305_r2.sem arg14.sem (slot1 arg7) arg4 arg5 1 (srow arg8 i 0) X R ∗ Leaving d i arg13.sem arg10.sem (slot0 arg7) arg4 arg5 0 3 Y X'
        ∗ Owed (th d i) O W ∗ Transfers.MayWaits (th d i) (none : HIx 1) O)
      ⊢ iprop((iprop(After d i arg11.sem v305_r2.sem arg14.sem (slot1 arg7) arg4 arg5 1 (srow arg8 i 0) X R (patched (k0_cond2 v31 = 1#1) (v31 &&& 7#32).toNat R X)
              ∗ Left d i arg13.sem arg10.sem (slot0 arg7) arg4 arg5 0 3 Y X' ∗ Owed (th d i) O W) -∗ Q ⟨⟩)
        -∗ wp frame (wpE (defs₀ (F := F)) 𝒱₀ (th d i) none) Set.univ (k0_part5 (F := F) i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 v4 v31 hw v32) Q) := by
  rw [k0_part5_eq_skeleton]
  unfold k0_part5_skel
  simp only [Prog.lift, Prog.bind_op, Prog.bind_ret, Prog.pure_eq_ret]
  iintro ⟨HB, HL, HO, #Hmw⟩ Hk
  iapply (wp_turnOut (th d i) (O := O) (W := W) (slice_congr arg8 (k0_off11_eq i) _ (row_inb i 0)) (chunk_off9 arg5 i 1 _) rfl rfl) $$ [HB HO]
  · isplitl [HB]; · iexact HB
    isplitl [HO]; · iexact HO
    iexact Hmw
  iintro ⟨HA, HO⟩
  iapply (wp_refill (th d i) (O := O) (W := W) (chunk_off9 arg4 i 3 _) rfl) $$ [HL HO]
  · isplitl [HL]; · iexact HL
    isplitl [HO]; · iexact HO
    iexact Hmw
  iintro ⟨HL, HO⟩
  rw [wp_ret]
  imodintro
  iapply Hk
  isplitl [HA]; · iexact HA
  isplitl [HL]; · iexact HL
  iexact HO

/-- Part 6: chunk 2 turned and started out, chunk 1 gone out, chunk 4 asked for. -/
theorem part6 {Q : PUnit → sProp 𝕄} (v4 v43 : BitVec 32) (hw : k0_chk3 v43) (v44 : BitVec 32)
    {X Y X' : S8x4096.Idx → Elt F .f32} {R : S1x4096.Idx → Elt F .f32} :
    iprop(Before d i arg12.sem v305_r3.sem arg15.sem (slot2 arg7) arg4 arg5 2 (srow arg8 i 1) X R ∗ Leaving d i arg14.sem arg11.sem (slot1 arg7) arg4 arg5 1 4 Y X'
        ∗ Owed (th d i) O W ∗ Transfers.MayWaits (th d i) (none : HIx 1) O)
      ⊢ iprop((iprop(After d i arg12.sem v305_r3.sem arg15.sem (slot2 arg7) arg4 arg5 2 (srow arg8 i 1) X R (patched (k0_cond3 v43 = 1#1) (v43 &&& 7#32).toNat R X)
              ∗ Left d i arg14.sem arg11.sem (slot1 arg7) arg4 arg5 1 4 Y X' ∗ Owed (th d i) O W) -∗ Q ⟨⟩)
        -∗ wp frame (wpE (defs₀ (F := F)) 𝒱₀ (th d i) none) Set.univ (k0_part6 (F := F) i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 v4 v43 hw v44) Q) := by
  rw [k0_part6_eq_skeleton]
  unfold k0_part6_skel
  simp only [Prog.lift, Prog.bind_op, Prog.bind_ret, Prog.pure_eq_ret]
  iintro ⟨HB, HL, HO, #Hmw⟩ Hk
  iapply (wp_turnOut (th d i) (O := O) (W := W) (slice_congr arg8 (k0_off13_eq i) _ (row_inb i 1)) (chunk_off14 arg5 i 1 _) rfl rfl) $$ [HB HO]
  · isplitl [HB]; · iexact HB
    isplitl [HO]; · iexact HO
    iexact Hmw
  iintro ⟨HA, HO⟩
  iapply (wp_refill (th d i) (O := O) (W := W) (chunk_off14 arg4 i 3 _) rfl) $$ [HL HO]
  · isplitl [HL]; · iexact HL
    isplitl [HO]; · iexact HO
    iexact Hmw
  iintro ⟨HL, HO⟩
  rw [wp_ret]
  imodintro
  iapply Hk
  isplitl [HA]; · iexact HA
  isplitl [HL]; · iexact HL
  iexact HO

/-- Part 7: chunk 3 turned and started out, chunk 2 gone out, chunk 5 asked for. -/
theorem part7 {Q : PUnit → sProp 𝕄} (v4 v43 : BitVec 32) (hw : k0_chk3 v43) (v44 : BitVec 32)
    {X Y X' : S8x4096.Idx → Elt F .f32} {R : S1x4096.Idx → Elt F .f32} :
    iprop(Before d i arg10.sem v305_r4.sem arg13.sem (slot0 arg7) arg4 arg5 3 (srow arg8 i 1) X R ∗ Leaving d i arg15.sem arg12.sem (slot2 arg7) arg4 arg5 2 5 Y X'
        ∗ Owed (th d i) O W ∗ Transfers.MayWaits (th d i) (none : HIx 1) O)
      ⊢ iprop((iprop(After d i arg10.sem v305_r4.sem arg13.sem (slot0 arg7) arg4 arg5 3 (srow arg8 i 1) X R (patched (k0_cond4 v43 = 1#1) (v43 &&& 7#32).toNat R X)
              ∗ Left d i arg15.sem arg12.sem (slot2 arg7) arg4 arg5 2 5 Y X' ∗ Owed (th d i) O W) -∗ Q ⟨⟩)
        -∗ wp frame (wpE (defs₀ (F := F)) 𝒱₀ (th d i) none) Set.univ (k0_part7 (F := F) i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 v4 v43 hw v44) Q) := by
  rw [k0_part7_eq_skeleton]
  unfold k0_part7_skel
  simp only [Prog.lift, Prog.bind_op, Prog.bind_ret, Prog.pure_eq_ret]
  iintro ⟨HB, HL, HO, #Hmw⟩ Hk
  iapply (wp_turnOut (th d i) (O := O) (W := W) (slice_congr arg8 (k0_off16_eq i) _ (row_inb i 1)) (chunk_off14 arg5 i 2 _) rfl rfl) $$ [HB HO]
  · isplitl [HB]; · iexact HB
    isplitl [HO]; · iexact HO
    iexact Hmw
  iintro ⟨HA, HO⟩
  iapply (wp_refill (th d i) (O := O) (W := W) (chunk_off14 arg4 i 4 _) rfl) $$ [HL HO]
  · isplitl [HL]; · iexact HL
    isplitl [HO]; · iexact HO
    iexact Hmw
  iintro ⟨HL, HO⟩
  rw [wp_ret]
  imodintro
  iapply Hk
  isplitl [HA]; · iexact HA
  isplitl [HL]; · iexact HL
  iexact HO

/-- Part 8: chunk 4 turned and started out, chunk 3 gone out. -/
theorem part8 {Q : PUnit → sProp 𝕄} (v4 v55 : BitVec 32) (hw : k0_chk4 v55) (v56 : BitVec 32)
    {X Y : S8x4096.Idx → Elt F .f32} {R : S1x4096.Idx → Elt F .f32} :
    iprop(Before d i arg11.sem v305_r5.sem arg14.sem (slot1 arg7) arg4 arg5 4 (srow arg8 i 2) X R ∗ FlyOut d i arg13.sem (slot0 arg7) arg5 3 Y ∗ Owed (th d i) O W ∗ Transfers.MayWaits (th d i) (none : HIx 1) O)
      ⊢ iprop((iprop(After d i arg11.sem v305_r5.sem arg14.sem (slot1 arg7) arg4 arg5 4 (srow arg8 i 2) X R (patched (k0_cond5 v55 = 1#1) (v55 &&& 7#32).toNat R X)
              ∗ ((Has (th d i) (chunk arg5 i 3) fullShare Y ∗ Has (th d i) (slot0 arg7) fullShare Y) ∗ semVal (th d i, .dma arg13.sem) 0 ∗ Owed (th d i) O W)) -∗ Q ⟨⟩)
        -∗ wp frame (wpE (defs₀ (F := F)) 𝒱₀ (th d i) none) Set.univ (k0_part8 (F := F) i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 v4 v55 hw v56) Q) := by
  rw [k0_part8_eq_skeleton]
  unfold k0_part8_skel
  simp only [Prog.lift, Prog.bind_op, Prog.bind_ret, Prog.pure_eq_ret]
  iintro ⟨HB, HF, HO, #Hmw⟩ Hk
  iapply (wp_turnOut (th d i) (O := O) (W := W) (slice_congr arg8 (k0_off18_eq i) _ (row_inb i 2)) (chunk_off19 arg5 i 1 _) rfl rfl) $$ [HB HO]
  · isplitl [HB]; · iexact HB
    isplitl [HO]; · iexact HO
    iexact Hmw
  iintro ⟨HA, HO⟩
  iapply (wp_wait (th d i) (O := O) (W := W) rfl) $$ [HF HO]
  · isplitl [HF]; · iexact HF
    isplitl [HO]; · iexact HO
    iexact Hmw
  iintro HF
  rw [wp_ret]
  imodintro
  iapply Hk
  isplitl [HA]; · iexact HA
  iexact HF

/-- Part 9: chunk 6 asked for, chunk 5 turned and started out, chunk 4 gone out. -/
theorem part9 {Q : PUnit → sProp 𝕄} (v4 v55 : BitVec 32) (hw : k0_chk4 v55) (v56 : BitVec 32)
    {X Y X' : S8x4096.Idx → Elt F .f32} {R : S1x4096.Idx → Elt F .f32} :
    iprop((Has (th d i) (chunk arg4 i 6) fullShare X' ∗ Room (th d i) (slot0 arg7) ∗ semVal (th d i, .dma arg10.sem) 0)
        ∗ Before d i arg12.sem v305_r6.sem arg15.sem (slot2 arg7) arg4 arg5 5 (srow arg8 i 2) X R ∗ FlyOut d i arg14.sem (slot1 arg7) arg5 4 Y ∗ Owed (th d i) O W ∗ Transfers.MayWaits (th d i) (none : HIx 1) O)
      ⊢ iprop((iprop(FlyIn d i arg10.sem (slot0 arg7) arg4 6 X' ∗ After d i arg12.sem v305_r6.sem arg15.sem (slot2 arg7) arg4 arg5 5 (srow arg8 i 2) X R (patched (k0_cond6 v55 = 1#1) (v55 &&& 7#32).toNat R X)
              ∗ ((Has (th d i) (chunk arg5 i 4) fullShare Y ∗ Has (th d i) (slot1 arg7) fullShare Y) ∗ semVal (th d i, .dma arg14.sem) 0 ∗ Owed (th d i) O W)) -∗ Q ⟨⟩)
        -∗ wp frame (wpE (defs₀ (F := F)) 𝒱₀ (th d i) none) Set.univ (k0_part9 (F := F) i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 v4 v55 hw v56) Q) := by
  rw [k0_part9_eq_skeleton]
  unfold k0_part9_skel
  simp only [Prog.lift, Prog.bind_op, Prog.bind_ret, Prog.pure_eq_ret]
  iintro ⟨H6, HB, HF, HO, #Hmw⟩ Hk
  iapply (wp_start' (th d i) (chunk_off19 arg4 i 3 _) rfl numel_pos) $$ H6
  iintro H6
  iapply (wp_turnOut (th d i) (O := O) (W := W) (slice_congr arg8 (k0_off21_eq i) _ (row_inb i 2)) (chunk_off19 arg5 i 2 _) rfl rfl) $$ [HB HO]
  · isplitl [HB]; · iexact HB
    isplitl [HO]; · iexact HO
    iexact Hmw
  iintro ⟨HA, HO⟩
  iapply (wp_wait (th d i) (O := O) (W := W) rfl) $$ [HF HO]
  · isplitl [HF]; · iexact HF
    isplitl [HO]; · iexact HO
    iexact Hmw
  iintro HF
  rw [wp_ret]
  imodintro
  iapply Hk
  isplitl [H6]; · iexact H6
  isplitl [HA]; · iexact HA
  iexact HF

/-- Part 10: chunk 7 asked for, chunk 6 turned and started out, chunk 7 landed and turned. -/
theorem part10 {Q : PUnit → sProp 𝕄} (v4 v67 : BitVec 32) (hw : k0_chk5 v67) (v68 : BitVec 32)
    {X X' : S8x4096.Idx → Elt F .f32} {R : S1x4096.Idx → Elt F .f32} :
    iprop((Has (th d i) (chunk arg4 i 7) fullShare X' ∗ Room (th d i) (slot1 arg7) ∗ semVal (th d i, .dma arg11.sem) 0)
        ∗ Before d i arg10.sem v305_r7.sem arg13.sem (slot0 arg7) arg4 arg5 6 (srow arg8 i 3) X R ∗ semVal (th d i, .dma v305_r8.sem) 0 ∗ Owed (th d i) O W ∗ Transfers.MayWaits (th d i) (none : HIx 1) O)
      ⊢ iprop((iprop((FlyOut d i arg13.sem (slot0 arg7) arg5 6 (patched (k0_cond7 v67 = 1#1) (v67 &&& 7#32).toNat R X)
                ∗ Has (th d i) (chunk arg4 i 6) fullShare X ∗ semVal (th d i, .dma arg10.sem) 0 ∗ semVal (th d i, .dma v305_r7.sem) 0)
              ∗ (Has (th d i) (slot1 arg7) fullShare (patched (k0_cond8 v67 = 1#1) (v67 &&& 7#32).toNat R X') ∗ Has (th d i) (chunk arg4 i 7) fullShare X'
                ∗ semVal (th d i, .dma arg11.sem) 0 ∗ Has (th d i) (srow arg8 i 3) fullShare R ∗ semVal (th d i, .dma v305_r8.sem) 0 ∗ Owed (th d i) O W)) -∗ Q ⟨⟩)
        -∗ wp frame (wpE (defs₀ (F := F)) 𝒱₀ (th d i) none) Set.univ (k0_part10 (F := F) i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 v4 v67 hw v68) Q) := by
  rw [k0_part10_eq_skeleton]
  unfold k0_part10_skel
  simp only [Prog.lift, Prog.bind_op, Prog.bind_ret, Prog.pure_eq_ret]
  iintro ⟨H7, HB, Hv8, HO, #Hmw⟩ Hk
  iapply (wp_start' (th d i) (chunk_off19 arg4 i 4 _) rfl numel_pos) $$ H7
  iintro H7
  iapply (wp_turnOut (th d i) (O := O) (W := W) (slice_congr arg8 (k0_off23_eq i) _ (row_inb i 3)) (chunk_off24 arg5 i 1 _) rfl rfl) $$ [HB HO]
  · isplitl [HB]; · iexact HB
    isplitl [HO]; · iexact HO
    iexact Hmw
  iintro ⟨⟨HA, Hi, Hm, Hr, Hv⟩, HO⟩
  iapply (wp_turn (th d i) (O := O) (W := W) (slice_congr arg8 (k0_off26_eq i) _ (row_inb i 3)) rfl rfl) $$ [H7 Hr Hv8 HO]
  · isplitl [H7]; · iexact H7
    isplitl [Hr]; · iexact Hr
    isplitl [Hv8]; · iexact Hv8
    isplitl [HO]; · iexact HO
    iexact Hmw
  iintro H
  rw [wp_ret]
  imodintro
  iapply Hk
  isplitr [H]
  · isplitl [HA]; · iexact HA
    isplitl [Hi]; · iexact Hi
    isplitl [Hm]; · iexact Hm
    iexact Hv
  iexact H

end Cert.Proof.Roll

end
-- ==== Proof.Body.lean ====
/-
  A tile's whole body from its parts: given its pieces of the arrays, it leaves each chunk of the result
  with the new row in it that belongs there.
-/
module

public import proofs.«01_k».proof.Proof.Parts

@[expose] public section

set_option maxRecDepth 16384

noncomputable section

namespace Cert.Proof.Roll

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (i : grid0.Coords)

/-- What chunk `ch` goes out as: the chunk, row `dl % 8` replaced by the new row when `dl / 8` is the chunk; each of the
    tile's four new rows falls in its own pair of chunks. -/
def outChunk (P : S8.Idx → Elt F .i32) (R : Fin 4 → S1x4096.Idx → Elt F .f32) (X : Fin 8 → S8x4096.Idx → Elt F .f32) :
    Fin 8 → S8x4096.Idx → Elt F .f32
  | 0 => patched (k0_cond1 (dl0 (F := F) i P) = 1#1) (dl0 (F := F) i P &&& 7#32).toNat (R 0) (X 0)
  | 1 => patched (k0_cond2 (dl0 (F := F) i P) = 1#1) (dl0 (F := F) i P &&& 7#32).toNat (R 0) (X 1)
  | 2 => patched (k0_cond3 (dl1 (F := F) i P) = 1#1) (dl1 (F := F) i P &&& 7#32).toNat (R 1) (X 2)
  | 3 => patched (k0_cond4 (dl1 (F := F) i P) = 1#1) (dl1 (F := F) i P &&& 7#32).toNat (R 1) (X 3)
  | 4 => patched (k0_cond5 (dl2 (F := F) i P) = 1#1) (dl2 (F := F) i P &&& 7#32).toNat (R 2) (X 4)
  | 5 => patched (k0_cond6 (dl2 (F := F) i P) = 1#1) (dl2 (F := F) i P &&& 7#32).toNat (R 2) (X 5)
  | 6 => patched (k0_cond7 (dl3 (F := F) i P) = 1#1) (dl3 (F := F) i P &&& 7#32).toNat (R 3) (X 6)
  | 7 => patched (k0_cond8 (dl3 (F := F) i P) = 1#1) (dl3 (F := F) i P &&& 7#32).toNat (R 3) (X 7)

variable (arg2 : Memref sig .scVector .hbm S128 .i32) (harg2 : arg2.IsWhole) (arg3 : Memref sig .scVector .hbm S128x4096 .f32) (harg3 : arg3.IsWhole)
  (arg4 : Memref sig .scVector .hbm S2048x4096 .f32) (harg4 : arg4.IsWhole) (arg5 : Memref sig .scVector .hbm S2048x4096 .f32) (harg5 : arg5.IsWhole)
  (arg6 : Memref sig .scVector .vmem S8 .i32) (harg6 : arg6.IsWhole) (arg7 : Memref sig .scVector .vmem S3x8x4096 .f32) (harg7 : arg7.IsWhole)
  (arg8 : Memref sig .scVector .shared S64x4096 .f32) (harg8 : arg8.IsWhole)
  (arg9 arg10 arg11 arg12 arg13 arg14 arg15 v304_r0 v305_r1 v305_r2 v305_r3 v305_r4 v305_r5 v305_r6 v305_r7 v305_r8 : DmaSems sig S_)

variable {O : CellTallies nD τ sig (HIx 1)} {W : Waits sig (HIx 1)}

/-- The whole body: every piece comes back, each output chunk reading `outChunk`. The tile's four shared rows, landed, are
    taken apart by `hrows`. -/
theorem body {Q : PUnit → sProp 𝕄} {q q' : PosShare TreeShare} {H : S4x4096.Idx → Elt F .f32} {P : S8.Idx → Elt F .i32}
    {R : Fin 4 → S1x4096.Idx → Elt F .f32} {X : Fin 8 → S8x4096.Idx → Elt F .f32}
    (hrows : Has (th d i) (sblk arg8 i) fullShare H ⊢ (iprop(Has (th d i) (srow arg8 i 0) fullShare (R 0) ∗ Has (th d i) (srow arg8 i 1) fullShare (R 1) ∗ Has (th d i) (srow arg8 i 2) fullShare (R 2) ∗ Has (th d i) (srow arg8 i 3) fullShare (R 3)) : sProp 𝕄)) :
    iprop((Has (th d i) (hblk arg3 i) q H ∗ Room (th d i) (sblk arg8 i) ∗ semVal (th d i, .dma arg9.sem) 0)
        ∗ (Has (th d i) (pblk arg2 i) q' P ∗ Room (th d i) arg6 ∗ semVal (th d i, .dma v304_r0.sem) 0)
        ∗ (Has (th d i) (chunk arg4 i 0) fullShare (X 0) ∗ Has (th d i) (chunk arg4 i 1) fullShare (X 1) ∗ Has (th d i) (chunk arg4 i 2) fullShare (X 2) ∗ Has (th d i) (chunk arg4 i 3) fullShare (X 3) ∗ Has (th d i) (chunk arg4 i 4) fullShare (X 4) ∗ Has (th d i) (chunk arg4 i 5) fullShare (X 5) ∗ Has (th d i) (chunk arg4 i 6) fullShare (X 6) ∗ Has (th d i) (chunk arg4 i 7) fullShare (X 7))
        ∗ (Room (th d i) (chunk arg5 i 0) ∗ Room (th d i) (chunk arg5 i 1) ∗ Room (th d i) (chunk arg5 i 2) ∗ Room (th d i) (chunk arg5 i 3) ∗ Room (th d i) (chunk arg5 i 4) ∗ Room (th d i) (chunk arg5 i 5) ∗ Room (th d i) (chunk arg5 i 6) ∗ Room (th d i) (chunk arg5 i 7))
        ∗ (Room (th d i) (slot0 arg7) ∗ Room (th d i) (slot1 arg7) ∗ Room (th d i) (slot2 arg7))
        ∗ (semVal (th d i, .dma arg10.sem) 0 ∗ semVal (th d i, .dma arg11.sem) 0 ∗ semVal (th d i, .dma arg12.sem) 0 ∗ semVal (th d i, .dma arg13.sem) 0 ∗ semVal (th d i, .dma arg14.sem) 0 ∗ semVal (th d i, .dma arg15.sem) 0)
        ∗ (semVal (th d i, .dma v305_r1.sem) 0 ∗ semVal (th d i, .dma v305_r2.sem) 0 ∗ semVal (th d i, .dma v305_r3.sem) 0 ∗ semVal (th d i, .dma v305_r4.sem) 0 ∗ semVal (th d i, .dma v305_r5.sem) 0 ∗ semVal (th d i, .dma v305_r6.sem) 0 ∗ semVal (th d i, .dma v305_r7.sem) 0 ∗ semVal (th d i, .dma v305_r8.sem) 0)
        ∗ Owed (th d i) O W ∗ Transfers.MayWaits (th d i) (none : HIx 1) O)
      ⊢ iprop((iprop((Has (th d i) (hblk arg3 i) q H ∗ (Has (th d i) (srow arg8 i 0) fullShare (R 0) ∗ Has (th d i) (srow arg8 i 1) fullShare (R 1) ∗ Has (th d i) (srow arg8 i 2) fullShare (R 2) ∗ Has (th d i) (srow arg8 i 3) fullShare (R 3)) ∗ semVal (th d i, .dma arg9.sem) 0)
        ∗ (Has (th d i) (pblk arg2 i) q' P ∗ Room (th d i) arg6 ∗ semVal (th d i, .dma v304_r0.sem) 0)
        ∗ (Has (th d i) (chunk arg4 i 0) fullShare (X 0) ∗ Has (th d i) (chunk arg4 i 1) fullShare (X 1) ∗ Has (th d i) (chunk arg4 i 2) fullShare (X 2) ∗ Has (th d i) (chunk arg4 i 3) fullShare (X 3) ∗ Has (th d i) (chunk arg4 i 4) fullShare (X 4) ∗ Has (th d i) (chunk arg4 i 5) fullShare (X 5) ∗ Has (th d i) (chunk arg4 i 6) fullShare (X 6) ∗ Has (th d i) (chunk arg4 i 7) fullShare (X 7))
        ∗ (Has (th d i) (chunk arg5 i 0) fullShare (outChunk i P R X 0) ∗ Has (th d i) (chunk arg5 i 1) fullShare (outChunk i P R X 1) ∗ Has (th d i) (chunk arg5 i 2) fullShare (outChunk i P R X 2) ∗ Has (th d i) (chunk arg5 i 3) fullShare (outChunk i P R X 3) ∗ Has (th d i) (chunk arg5 i 4) fullShare (outChunk i P R X 4) ∗ Has (th d i) (chunk arg5 i 5) fullShare (outChunk i P R X 5) ∗ Has (th d i) (chunk arg5 i 6) fullShare (outChunk i P R X 6) ∗ Has (th d i) (chunk arg5 i 7) fullShare (outChunk i P R X 7))
        ∗ (Room (th d i) (slot0 arg7) ∗ Room (th d i) (slot1 arg7) ∗ Room (th d i) (slot2 arg7))
        ∗ (semVal (th d i, .dma arg10.sem) 0 ∗ semVal (th d i, .dma arg11.sem) 0 ∗ semVal (th d i, .dma arg12.sem) 0 ∗ semVal (th d i, .dma arg13.sem) 0 ∗ semVal (th d i, .dma arg14.sem) 0 ∗ semVal (th d i, .dma arg15.sem) 0)
        ∗ (semVal (th d i, .dma v305_r1.sem) 0 ∗ semVal (th d i, .dma v305_r2.sem) 0 ∗ semVal (th d i, .dma v305_r3.sem) 0 ∗ semVal (th d i, .dma v305_r4.sem) 0 ∗ semVal (th d i, .dma v305_r5.sem) 0 ∗ semVal (th d i, .dma v305_r6.sem) 0 ∗ semVal (th d i, .dma v305_r7.sem) 0 ∗ semVal (th d i, .dma v305_r8.sem) 0)
        ∗ Owed (th d i) O W) -∗ Q ⟨⟩)
        -∗ wp frame (wpE (defs₀ (F := F)) 𝒱₀ (th d i) none) Set.univ (cc0__sc_update (F := F) i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8) Q) := by
  rw [cc0__sc_update_eq_skeleton]
  unfold cc0__sc_update_skel
  rw [k0_part11_eq_skeleton]
  unfold k0_part11_skel
  simp only [Prog.lift, Prog.bind_op, Prog.bind_ret, Prog.pure_eq_ret, wp_bind]
  iintro ⟨Hh, Hp, ⟨I0, I1, I2, I3, I4, I5, I6, I7⟩, ⟨O0, O1, O2, O3, O4, O5, O6, O7⟩, ⟨D0, D1, D2⟩, ⟨S10, S11, S12, S13, S14, S15⟩, ⟨V1, V2, V3, V4, V5, V6, V7, V8⟩, HO, #Hmw⟩ Hk
  iapply (part1 d i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 (O := O) (W := W)) $$ [Hh Hp HO]
  · isplitl [Hh]; · iexact Hh
    isplitl [Hp]; · iexact Hp
    isplitl [HO]; · iexact HO
    iexact Hmw
  iintro ⟨Hf, Hb, Hp, Hv0, HO⟩
  dsimp only
  iapply (part2 d i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8)
  dsimp only
  iapply (part3 d i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 _ _ _) $$ [I0 D0 S10]
  · isplitl [I0]; · iexact I0
    isplitl [D0]; · iexact D0
    iexact S10
  iintro F0
  ihave Hf := (show Fly (th d i) arg9.sem (sblk arg8 i).view.dmaCredit iprop(Has (th d i) (sblk arg8 i) fullShare H ∗ Has (th d i) (hblk arg3 i) q H)
      ⊢ Fly (th d i) arg9.sem (sblk arg8 i).view.dmaCredit iprop(Has (th d i) (srow arg8 i 0) fullShare (R 0)
          ∗ ((Has (th d i) (srow arg8 i 1) fullShare (R 1) ∗ Has (th d i) (srow arg8 i 2) fullShare (R 2) ∗ Has (th d i) (srow arg8 i 3) fullShare (R 3))
            ∗ Has (th d i) (hblk arg3 i) q H)) from
      Transfers.Flight_mono (countersEmb (U := UU)) (th d i) ((sep_mono_left hrows).trans sep_assoc.1)) $$ Hf
  iapply (part4 d i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 (O := O) (W := W) _ _ _ _) $$ [I1 D1 S11 Hf F0 V1 O0 S13 I2 D2 S12 HO]
  · isplitl [I1 D1 S11]
    · isplitl [I1]; · iexact I1
      isplitl [D1]; · iexact D1
      iexact S11
    isplitl [Hf]; · iexact Hf
    isplitl [F0 V1 O0 S13]
    · isplitl [F0]; · iexact F0
      isplitl [V1]; · iexact V1
      isplitl [O0]; · iexact O0
      iexact S13
    isplitl [I2 D2 S12]
    · isplitl [I2]; · iexact I2
      isplitl [D2]; · iexact D2
      iexact S12
    isplitl [HO]; · iexact HO
    iexact Hmw
  iintro ⟨F1, ⟨⟨⟨R1, R2, R3⟩, Hh⟩, S9⟩, ⟨G0, I0, S10, R0, V1⟩, F2, HO⟩
  iapply (part5 d i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 (O := O) (W := W) _ _ _ _) $$ [F1 R0 V2 O1 S14 G0 I3 S10 HO]
  · isplitl [F1 R0 V2 O1 S14]
    · isplitl [F1]; · iexact F1
      isplitl [R0]; · iexact R0
      isplitl [V2]; · iexact V2
      isplitl [O1]; · iexact O1
      iexact S14
    isplitl [G0 I3 S10]
    · isplitl [G0]; · iexact G0
      isplitl [I3]; · iexact I3
      iexact S10
    isplitl [HO]; · iexact HO
    iexact Hmw
  iintro ⟨⟨G1, I1, S11, R0, V2⟩, ⟨F3, Y0, S13⟩, HO⟩
  iapply (part6 d i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 (O := O) (W := W) _ _ _ _) $$ [F2 R1 V3 O2 S15 G1 I4 S11 HO]
  · isplitl [F2 R1 V3 O2 S15]
    · isplitl [F2]; · iexact F2
      isplitl [R1]; · iexact R1
      isplitl [V3]; · iexact V3
      isplitl [O2]; · iexact O2
      iexact S15
    isplitl [G1 I4 S11]
    · isplitl [G1]; · iexact G1
      isplitl [I4]; · iexact I4
      iexact S11
    isplitl [HO]; · iexact HO
    iexact Hmw
  iintro ⟨⟨G2, I2, S12, R1, V3⟩, ⟨F4, Y1, S14⟩, HO⟩
  iapply (part7 d i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 (O := O) (W := W) _ _ _ _) $$ [F3 R1 V4 O3 S13 G2 I5 S12 HO]
  · isplitl [F3 R1 V4 O3 S13]
    · isplitl [F3]; · iexact F3
      isplitl [R1]; · iexact R1
      isplitl [V4]; · iexact V4
      isplitl [O3]; · iexact O3
      iexact S13
    isplitl [G2 I5 S12]
    · isplitl [G2]; · iexact G2
      isplitl [I5]; · iexact I5
      iexact S12
    isplitl [HO]; · iexact HO
    iexact Hmw
  iintro ⟨⟨G3, I3, S10, R1, V4⟩, ⟨F5, Y2, S15⟩, HO⟩
  iapply (part8 d i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 (O := O) (W := W) _ _ _ _) $$ [F4 R2 V5 O4 S14 G3 HO]
  · isplitl [F4 R2 V5 O4 S14]
    · isplitl [F4]; · iexact F4
      isplitl [R2]; · iexact R2
      isplitl [V5]; · iexact V5
      isplitl [O4]; · iexact O4
      iexact S14
    isplitl [G3]; · iexact G3
    isplitl [HO]; · iexact HO
    iexact Hmw
  iintro ⟨⟨G4, I4, S11, R2, V5⟩, ⟨⟨Y3, D0⟩, S13, HO⟩⟩
  iapply (part9 d i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 (O := O) (W := W) _ _ _ _) $$ [I6 D0 S10 F5 R2 V6 O5 S15 G4 HO]
  · isplitl [I6 D0 S10]
    · isplitl [I6]; · iexact I6
      isplitl [D0]; · (iapply Has.room; iexact D0)
      iexact S10
    isplitl [F5 R2 V6 O5 S15]
    · isplitl [F5]; · iexact F5
      isplitl [R2]; · iexact R2
      isplitl [V6]; · iexact V6
      isplitl [O5]; · iexact O5
      iexact S15
    isplitl [G4]; · iexact G4
    isplitl [HO]; · iexact HO
    iexact Hmw
  iintro ⟨F6, ⟨G5, I5, S12, R2, V6⟩, ⟨⟨Y4, D1⟩, S14, HO⟩⟩
  iapply (part10 d i arg2 harg2 arg3 harg3 arg4 harg4 arg5 harg5 arg6 harg6 arg7 harg7 arg8 harg8 arg9 arg10 arg11 arg12 arg13 arg14 arg15 v304_r0 v305_r1 v305_r2 v305_r3 v305_r4 v305_r5 v305_r6 v305_r7 v305_r8 (O := O) (W := W) _ _ _ _) $$ [I7 D1 S11 F6 R3 V7 O6 S13 V8 HO]
  · isplitl [I7 D1 S11]
    · isplitl [I7]; · iexact I7
      isplitl [D1]; · (iapply Has.room; iexact D1)
      iexact S11
    isplitl [F6 R3 V7 O6 S13]
    · isplitl [F6]; · iexact F6
      isplitl [R3]; · iexact R3
      isplitl [V7]; · iexact V7
      isplitl [O6]; · iexact O6
      iexact S13
    isplitl [V8]; · iexact V8
    isplitl [HO]; · iexact HO
    iexact Hmw
  iintro ⟨⟨G6, I6, S10, V7⟩, ⟨D1, I7, S11, R3, V8, HO⟩⟩
  iapply (wp_start' (th d i) rfl (chunk_off24 arg5 i 2 _) numel_pos) $$ [D1 O7 S14]
  · isplitl [D1]; · iexact D1
    isplitl [O7]; · iexact O7
    iexact S14
  iintro G7
  iapply (wp_wait (th d i) (O := O) (W := W) rfl) $$ [G5 HO]
  · isplitl [G5]; · iexact G5
    isplitl [HO]; · iexact HO
    iexact Hmw
  iintro ⟨⟨Y5, D2⟩, S15, HO⟩
  iapply (wp_wait (th d i) (O := O) (W := W) rfl) $$ [G6 HO]
  · isplitl [G6]; · iexact G6
    isplitl [HO]; · iexact HO
    iexact Hmw
  iintro ⟨⟨Y6, D0⟩, S13, HO⟩
  rw [wp_ret]
  imodintro
  iapply (wp_wait (th d i) (O := O) (W := W) rfl) $$ [G7 HO]
  · isplitl [G7]; · iexact G7
    isplitl [HO]; · iexact HO
    iexact Hmw
  iintro ⟨⟨Y7, D1⟩, S14, HO⟩
  rw [wp_ret]
  imodintro
  iapply Hk
  isplitl [Hh R0 R1 R2 R3 S9]
  · isplitl [Hh]; · iexact Hh
    isplitl [R0 R1 R2 R3]
    · isplitl [R0]; · iexact R0
      isplitl [R1]; · iexact R1
      isplitl [R2]; · iexact R2
      iexact R3
    iexact S9
  isplitl [Hp Hb Hv0]
  · isplitl [Hp]; · iexact Hp
    isplitl [Hb]; · (iapply Has.room; iexact Hb)
    iexact Hv0
  isplitl [I0 I1 I2 I3 I4 I5 I6 I7]
  · isplitl [I0]; · iexact I0
    isplitl [I1]; · iexact I1
    isplitl [I2]; · iexact I2
    isplitl [I3]; · iexact I3
    isplitl [I4]; · iexact I4
    isplitl [I5]; · iexact I5
    isplitl [I6]; · iexact I6
    iexact I7
  isplitl [Y0 Y1 Y2 Y3 Y4 Y5 Y6 Y7]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    iexact Y7
  isplitl [D0 D1 D2]
  · isplitl [D0]; · (iapply Has.room; iexact D0)
    isplitl [D1]; · (iapply Has.room; iexact D1)
    (iapply Has.room; iexact D2)
  isplitl [S10 S11 S12 S13 S14 S15]
  · isplitl [S10]; · iexact S10
    isplitl [S11]; · iexact S11
    isplitl [S12]; · iexact S12
    isplitl [S13]; · iexact S13
    isplitl [S14]; · iexact S14
    iexact S15
  isplitl [V1 V2 V3 V4 V5 V6 V7 V8]
  · isplitl [V1]; · iexact V1
    isplitl [V2]; · iexact V2
    isplitl [V3]; · iexact V3
    isplitl [V4]; · iexact V4
    isplitl [V5]; · iexact V5
    isplitl [V6]; · iexact V6
    isplitl [V7]; · iexact V7
    iexact V8
  iexact HO

end Cert.Proof.Roll

end
-- ==== Proof.Words.lean ====
/-
  The words of the body: the destination row each tile finds for each of its four new rows, and so
  what every output chunk reads as one function of the argument arrays. No machine here.
-/
module

public import proofs.«01_k».proof.Proof.Body

@[expose] public section

set_option maxRecDepth 16384

noncomputable section

namespace Cert.Proof.Roll

open Cert.KernelIdeal Cert.KernelIdeal.Gen

open Idealize.ShloMosaic

variable {F : FTy → Type}

/-- The lane numbers. -/
abbrev lanes16 : IVec S16 32 := iota .scVector S16 32 [0] iota_S16_d0_w32_scVector

/-- Lane `k` of `v`, found as the body finds it: every other lane set to minus one, the largest signed lane taken. -/
def pick (k : BitVec 32) (v : IVec S16 32) : BitVec 32 :=
  extractAt ![15] (xori (scan .max (xori (select (cmpi .eq lanes16 (broadcast S16 k)) v (broadcast S16 4294967295#32)) (broadcast S16 2147483648#32)))
    (broadcast S16 2147483648#32)) inpos_S16_p15

theorem pick_const : ∀ (k : Fin 4) (a : Fin 64), pick (BitVec.ofNat 32 k.val) (broadcast S16 (BitVec.ofNat 32 a.val)) = BitVec.ofNat 32 a.val := by
  decide +kernel

theorem lane_ne : ∀ (k : Fin 4) (x : Fin 16), x.val ≠ k.val → cmpi .eq lanes16 (broadcast S16 (BitVec.ofNat 32 k.val)) (Shape.ofLane x) = 0#1 := by
  decide +kernel

theorem ofLane_eta (x : S16.Idx) : x = Shape.ofLane (x 0) :=
  funext fun a => by obtain rfl : a = 0 := Fin.eq_zero a; rfl

/-- Lane `k` is found when it holds a word below 64. -/
theorem pick_eq (k : Fin 4) (v : IVec S16 32) (a : Fin 64) (h : v (Shape.ofLane (d := ![16]) (⟨k.val, by omega⟩ : Fin 16)) = BitVec.ofNat 32 a.val) :
    pick (BitVec.ofNat 32 k.val) v = BitVec.ofNat 32 a.val := by
  have hs : select (cmpi .eq lanes16 (broadcast S16 (BitVec.ofNat 32 k.val))) v (broadcast S16 4294967295#32)
      = select (cmpi .eq lanes16 (broadcast S16 (BitVec.ofNat 32 k.val))) (broadcast S16 (BitVec.ofNat 32 a.val)) (broadcast S16 4294967295#32) := by
    funext x
    rw [ofLane_eta x]
    by_cases hx : (x 0).val = k.val
    · have hx' : x 0 = (⟨k.val, by omega⟩ : Fin 16) := Fin.ext hx
      rw [hx']
      show Scalar.select _ (v _) _ = Scalar.select _ (broadcast S16 (BitVec.ofNat 32 a.val) _) _
      rw [h]; rfl
    · have := lane_ne k (x 0) hx
      simp only [select, this]
      rfl
  rw [← pick_const k a]
  unfold pick
  rw [hs]

variable [FloatOps F] (i : grid0.Coords)

theorem dl0_eq (P : S8.Idx → Elt F .i32) : dl0 i P = pick (BitVec.ofNat 32 (0 : Fin 4).val) (k0_pay3 (F := F) (lanes i P)) := rfl
theorem dl1_eq (P : S8.Idx → Elt F .i32) : dl1 i P = pick (BitVec.ofNat 32 (1 : Fin 4).val) (k0_pay3 (F := F) (lanes i P)) := rfl
theorem dl2_eq (P : S8.Idx → Elt F .i32) : dl2 i P = pick (BitVec.ofNat 32 (2 : Fin 4).val) (k0_pay3 (F := F) (lanes i P)) := rfl
theorem dl3_eq (P : S8.Idx → Elt F .i32) : dl3 i P = pick (BitVec.ofNat 32 (3 : Fin 4).val) (k0_pay3 (F := F) (lanes i P)) := rfl

/-- Lane `k` of the index vector names the position of the tile's row `k`. -/
theorem pay2_lane : ∀ (i : grid0.Coords) (k : Fin 4), (k0_pay2 i (Shape.ofLane (d := ![16]) (⟨k.val, by omega⟩ : Fin 16))).toNat = 4 * (i 0).val + k.val := by
  decide +kernel

theorem pay1_lane : ∀ k : Fin 4, k0_pay1 (Shape.ofLane (d := ![16]) (⟨k.val, by omega⟩ : Fin 16)) = BitVec.ofNat 32 k.val := by decide +kernel

theorem word16 : ∀ (k : Fin 4) (n : Fin 16), Scalar.addi (Scalar.muli (BitVec.ofNat 32 k.val) 16#32) (BitVec.ofNat 32 n.val) = BitVec.ofNat 32 (16 * k.val + n.val) := by
  decide +kernel

/-- The position, masked to its low four bits, of the tile's row `k`. -/
def low (P : S8.Idx → BitVec 32) (k : Fin 4) : Fin 16 :=
  ⟨(P (Shape.ofLane (d := ![8]) (⟨4 * (i 0).val + k.val, by have := i0_lt i; omega⟩ : Fin 8)) &&& 15#32).toNat, by
    rw [BitVec.toNat_and]; exact Nat.lt_succ_of_le Nat.and_le_right⟩

theorem pay3_lane (P : S8.Idx → Elt F .i32) (k : Fin 4) :
    k0_pay3 (F := F) (lanes i P) (Shape.ofLane (d := ![16]) (⟨k.val, by omega⟩ : Fin 16)) = BitVec.ofNat 32 (16 * k.val + (low i P k).val) := by
  rw [← word16 k (low i P k)]
  show Scalar.addi (Scalar.muli (k0_pay1 _) 16#32) (Scalar.andi (P (idxAt ![k0_pay2 i] (k0_idx1_inb (k0_pay2 i) (chk1_all i)) _)) 15#32) = _
  rw [pay1_lane k]
  congr 1
  have hidx : idxAt ![k0_pay2 i] (k0_idx1_inb (k0_pay2 i) (chk1_all i)) (Shape.ofLane (d := ![16]) (⟨k.val, by omega⟩ : Fin 16))
      = Shape.ofLane (d := ![8]) (⟨4 * (i 0).val + k.val, by have := i0_lt i; omega⟩ : Fin 8) :=
    funext fun a => by
      obtain rfl : a = 0 := Fin.eq_zero a
      exact Fin.ext (pay2_lane i k)
  rw [hidx]
  exact (BitVec.ofNat_toNat 32 _ |>.trans (BitVec.setWidth_eq _)).symm

theorem dl_eq (P : S8.Idx → Elt F .i32) (k : Fin 4) :
    pick (BitVec.ofNat 32 k.val) (k0_pay3 (F := F) (lanes i P)) = BitVec.ofNat 32 (16 * k.val + (low i P k).val) :=
  pick_eq k _ ⟨16 * k.val + (low i P k).val, by omega⟩ (pay3_lane i P k)

/-- The condition the body tests before patching chunk `ch`. -/
def condOf (ch : Fin 8) (v : BitVec 32) : BitVec 1 :=
  match ch with
  | 0 => k0_cond1 v | 1 => k0_cond2 v | 2 => k0_cond3 v | 3 => k0_cond4 v
  | 4 => k0_cond5 v | 5 => k0_cond6 v | 6 => k0_cond7 v | 7 => k0_cond8 v

/-- Chunk `ch` holds half of one batch row's sixteen; its row `y` is patched exactly when the position says that row. -/
theorem cond_iff : ∀ (ch : Fin 8) (n : Fin 16) (y : Fin 8),
    (condOf ch (BitVec.ofNat 32 (16 * (ch.val / 2) + n.val)) = 1#1 ∧ y.val = (BitVec.ofNat 32 (16 * (ch.val / 2) + n.val) &&& 7#32).toNat)
      ↔ n.val = 8 * (ch.val % 2) + y.val := by
  decide +kernel

/-- The batch row chunk `ch` belongs to, among the tile's four. -/
abbrev kOf (ch : Fin 8) : Fin 4 := ⟨ch.val / 2, by omega⟩

theorem outChunk_apply (P : S8.Idx → Elt F .i32) (R : Fin 4 → S1x4096.Idx → Elt F .f32) (X : Fin 8 → S8x4096.Idx → Elt F .f32) (ch : Fin 8) (y : S8x4096.Idx) :
    outChunk i P R X ch y = if (low i P (kOf ch)).val = 8 * (ch.val % 2) + (y 0).val then R (kOf ch) (Shape.pair (d := ![1, 4096]) (0 : Fin 1) (y 1)) else X ch y := by
  have key : ∀ (v : BitVec 32), v = BitVec.ofNat 32 (16 * (kOf ch).val + (low i P (kOf ch)).val) →
      patched (condOf ch v = 1#1) (v &&& 7#32).toNat (R (kOf ch)) (X ch) y
        = if (low i P (kOf ch)).val = 8 * (ch.val % 2) + (y 0).val then R (kOf ch) (Shape.pair (d := ![1, 4096]) (0 : Fin 1) (y 1)) else X ch y := by
    rintro v rfl
    unfold patched
    exact if_congr (cond_iff ch (low i P (kOf ch)) (y 0)) rfl rfl
  match ch with
  | 0 => exact key _ ((dl0_eq i P).trans (dl_eq i P 0))
  | 1 => exact key _ ((dl0_eq i P).trans (dl_eq i P 0))
  | 2 => exact key _ ((dl1_eq i P).trans (dl_eq i P 1))
  | 3 => exact key _ ((dl1_eq i P).trans (dl_eq i P 1))
  | 4 => exact key _ ((dl2_eq i P).trans (dl_eq i P 2))
  | 5 => exact key _ ((dl2_eq i P).trans (dl_eq i P 2))
  | 6 => exact key _ ((dl3_eq i P).trans (dl_eq i P 3))
  | 7 => exact key _ ((dl3_eq i P).trans (dl_eq i P 3))

/-! ## As one function of the arrays -/

/-- The result, a row per batch row and place in the window: the new row of state at the place the batch row's position
    names modulo sixteen, the old contents elsewhere. -/
def outVal {A : Type} (pos : S128.Idx → BitVec 32) (hs : S128x4096.Idx → A) (buf : S2048x4096.Idx → A) : S2048x4096.Idx → A := fun y =>
  if (pos (Shape.ofLane (d := ![128]) (⟨(y 0).val / 16, by have : (y 0).val < 2048 := (y 0).isLt; omega⟩ : Fin 128)) &&& 15#32).toNat = (y 0).val % 16 then
    hs (Shape.pair (d := ![128, 4096]) (⟨(y 0).val / 16, by have : (y 0).val < 2048 := (y 0).isLt; omega⟩ : Fin 128) (y 1))
  else buf y

/-- What the tile's pieces of the arrays read. -/
def posOf (pos : S128.Idx → BitVec 32) : S8.Idx → BitVec 32 := fun x => pos ((Rect.unit (s := S128) (k0_off3 i) S8.size (k0_off3_inb i)).emb x)
def hsOf {A : Type} (hs : S128x4096.Idx → A) : S4x4096.Idx → A := fun x => hs ((Rect.unit (s := S128x4096) (k0_off2 i) S4x4096.size (k0_off2_inb i)).emb x)
def hrowOf {A : Type} (hs : S128x4096.Idx → A) (k : Fin 4) : S1x4096.Idx → A := fun x => hsOf i hs (Shape.pair (d := ![4, 4096]) (k : Fin 4) (x 1))
def chunkOf {A : Type} (buf : S2048x4096.Idx → A) (ch : Fin 8) : S8x4096.Idx → A := fun x => buf ((Rect.unit (s := S2048x4096) (chunkOff i ch) S8x4096.size (chunk_inb i ch)).emb x)

theorem off3_eq : ∀ i : grid0.Coords, k0_off3 i 0 = 8 * (i 1).val := by decide +kernel

/-- The chunks go out as `outVal`'s own rows. -/
theorem outChunk_eq (pos : S128.Idx → Elt F .i32) (hs : S128x4096.Idx → Elt F .f32) (buf : S2048x4096.Idx → Elt F .f32) (ch : Fin 8) :
    outChunk i (posOf i pos) (hrowOf i hs) (chunkOf i buf) ch = chunkOf i (outVal pos hs buf) ch := by
  funext y
  rw [outChunk_apply]
  have hc := ch.isLt
  have h0 := i0_lt i
  have h1 := i1_lt i
  have hy : (y 0).val < 8 := (y 0).isLt
  have hr : (((Rect.unit (s := S2048x4096) (chunkOff i ch) S8x4096.size (chunk_inb i ch)).emb y 0 : Fin _) : ℕ) = 128 * (i 1).val + 64 * (i 0).val + 8 * ch.val + (y 0).val := by
    show 128 * (i 1).val + 64 * (i 0).val + 8 * ch.val + 1 * (y 0).val = _
    omega
  have hcol : (Rect.unit (s := S2048x4096) (chunkOff i ch) S8x4096.size (chunk_inb i ch)).emb y 1 = y 1 := Fin.ext (by
    show 0 + 1 * (y 1).val = _
    omega)
  have hd : (((Rect.unit (s := S2048x4096) (chunkOff i ch) S8x4096.size (chunk_inb i ch)).emb y 0 : Fin _) : ℕ) / 16 = 8 * (i 1).val + 4 * (i 0).val + ch.val / 2 := by
    rw [hr]; omega
  have hm : (((Rect.unit (s := S2048x4096) (chunkOff i ch) S8x4096.size (chunk_inb i ch)).emb y 0 : Fin _) : ℕ) % 16 = 8 * (ch.val % 2) + (y 0).val := by
    rw [hr]; omega
  show _ = outVal pos hs buf _
  unfold outVal
  refine if_congr ?_ ?_ rfl
  · refine Iff.of_eq (congrArg₂ (· = ·) (congrArg (fun w : BitVec 32 => (w &&& 15#32).toNat) (congrArg pos (funext fun a => ?_))) hm.symm)
    obtain rfl : a = 0 := Fin.eq_zero a
    refine Fin.ext ?_
    show k0_off3 i 0 + 1 * (4 * (i 0).val + ch.val / 2) = _ / 16
    rw [hd, off3_eq]; omega
  · refine congrArg hs (funext fun a => ?_)
    match a with
    | 0 =>
      refine Fin.ext ?_
      show k0_off2 i 0 + 1 * (ch.val / 2) = _ / 16
      rw [hd, k0_off2_eq]
      show 8 * (i 1).val + 4 * (i 0).val + _ = _
      omega
    | 1 =>
      refine Fin.ext ?_
      show k0_off2 i 1 + 1 * (y 1).val = ((Rect.unit (s := S2048x4096) (chunkOff i ch) S8x4096.size (chunk_inb i ch)).emb y 1 : Fin _).val
      rw [hcol, k0_off2_eq]
      show 0 + 1 * (y 1).val = _
      omega

end Cert.Proof.Roll

end
-- ==== Proof.Pieces.lean ====
/-
  The arrays in pieces: which elements each tile's slices name, that the slices of all the tiles are
  disjoint and together the array, and what a piece of an array reads through a tile's slice of it.
-/
module

public import proofs.«01_k».proof.Proof.Words

@[expose] public section

set_option maxRecDepth 16384

noncomputable section

namespace Cert.Proof.Roll

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A piece of memory read through a memref -/

section
variable {sp : Space} {s : Shape} {e : EltTy} {c : Thread nD τ} {m : Memref sig c.2.kind sp s e} {q : PosShare TreeShare} {X : s.Idx → Elt F e}

theorem cast_eq_cast {α β : Type} (h : α = β) {a b : α} (e : _root_.cast h a = _root_.cast h b) : a = b := by
  subst h; exact e

theorem has_of {g : Buf (Elt F) (m.view.loc c)} (h : m.view.read (Elt F) g = X) : (m.view.loc c ↦[m.view.set]{q} g : sProp 𝕄) ⊢ Has c m q X := by
  unfold Has
  iintro H; iexists g; isplitr; · ipureintro; exact h
  iexact H

theorem of_has {g : Buf (Elt F) (m.view.loc c)} (h : m.view.read (Elt F) g = X) : Has c m q X ⊢ (m.view.loc c ↦[m.view.set]{q} g : sProp 𝕄) := by
  unfold Has
  iintro ⟨%f, %hf, H⟩
  iapply (Entails.of_eq (pointsTo_congr (fun i hi => ?_))) $$ H
  obtain ⟨x, -, rfl⟩ := Finset.mem_map.mp hi
  have hx := congrFun (hf.trans h.symm) x
  rw [View.read_apply, View.read_apply] at hx
  exact cast_eq_cast _ hx

/-- Holding the elements under `m` at contents that read `X` is holding what reads `X` there. -/
theorem has_eq {g : Buf (Elt F) (m.view.loc c)} (h : m.view.read (Elt F) g = X) : Has c m q X = (m.view.loc c ↦[m.view.set]{q} g : sProp 𝕄) :=
  (of_has h).antisymm (has_of h)
end

/-! ## The arrays and the tiles' shares of them -/

abbrev pLoc (d : Dev nD) : Loc nD τ sig := (SparseCore.T d).loc main_arg1
abbrev hLoc (d : Dev nD) : Loc nD τ sig := (SparseCore.T d).loc main_v0
abbrev bLoc (d : Dev nD) : Loc nD τ sig := (SparseCore.T d).loc main_v1
abbrev oLoc (d : Dev nD) : Loc nD τ sig := (SparseCore.T d).loc main_v2
/-- SparseCore `c`'s shared scratch. -/
abbrev shRef (c : Fin τ.nSC) : DevRef τ sig := ⟨.shared, ⟨0, by decide⟩, c⟩
abbrev shLoc (d : Dev nD) (c : Fin τ.nSC) : Loc nD τ sig := (d, shRef c)

/-- The whole array of positions, as a tile sees it. -/
abbrev pV : Memref Cert.KernelIdeal.sig Kind.scVector Space.hbm Cert.KernelIdeal.S128 EltTy.i32 := Memref.whole Cert.KernelIdeal.main_arg1_scv
/-- The new states. -/
abbrev hV : Memref Cert.KernelIdeal.sig Kind.scVector Space.hbm Cert.KernelIdeal.S128x4096 EltTy.f32 := Memref.whole Cert.KernelIdeal.main_v0_scv
/-- The buffer's rows. -/
abbrev bV : Memref Cert.KernelIdeal.sig Kind.scVector Space.hbm Cert.KernelIdeal.S2048x4096 EltTy.f32 := Memref.whole Cert.KernelIdeal.main_v1_scv
/-- The result's rows. -/
abbrev oV : Memref Cert.KernelIdeal.sig Kind.scVector Space.hbm Cert.KernelIdeal.S2048x4096 EltTy.f32 := Memref.whole Cert.KernelIdeal.main_v2_scv
/-- A tile's scratch for its positions. -/
abbrev xV : Memref Cert.KernelIdeal.sig Kind.scVector Space.vmem Cert.KernelIdeal.S8 EltTy.i32 := Memref.whole Cert.KernelIdeal.cc0_scratch0
/-- A tile's three slots. -/
abbrev tV : Memref Cert.KernelIdeal.sig Kind.scVector Space.vmem Cert.KernelIdeal.S3x8x4096 EltTy.f32 := Memref.whole Cert.KernelIdeal.cc0_scratch1
/-- The shared scratch. -/
abbrev sV : Memref Cert.KernelIdeal.sig Kind.scVector Space.shared Cert.KernelIdeal.S64x4096 EltTy.f32 := Memref.whole Cert.KernelIdeal.cc0_scratch2

/-- The elements a tile works on: its four rows of new state, -/
def hSet (i : grid0.Coords) : Finset S128x4096.Idx := (Rect.unit (s := S128x4096) (k0_off2 i) S4x4096.size (k0_off2_inb i)).set
/-- its eight positions, -/
def pSet (i : grid0.Coords) : Finset S128.Idx := (Rect.unit (s := S128) (k0_off3 i) S8.size (k0_off3_inb i)).set
/-- chunk `ch` of its sixty-four rows of the buffer, -/
def cSet (i : grid0.Coords) (ch : Fin 8) : Finset S2048x4096.Idx := (Rect.unit (s := S2048x4096) (chunkOff i ch) S8x4096.size (chunk_inb i ch)).set
/-- its four rows of the shared scratch, -/
def shSet (i : grid0.Coords) : Finset S64x4096.Idx := (Rect.unit (s := S64x4096) (k0_off1 i) S4x4096.size (k0_off1_inb i)).set
/-- row `k` of those. -/
def srSet (i : grid0.Coords) (k : Fin 4) : Finset S64x4096.Idx := (Rect.unit (s := S64x4096) (rowOff i k) S1x4096.size (row_inb i k)).set
/-- Slot `k` of the three of the tile's scratch. -/
theorem slot_inb (k : Fin 3) : ∀ a, (![k.val, 0, 0] : Fin 3 → ℕ) a + S1x8x4096.size a ≤ S3x8x4096.size a := by
  revert k; decide
def slSet (k : Fin 3) : Finset S3x8x4096.Idx := (Rect.unit (s := S3x8x4096) ![k.val, 0, 0] S1x8x4096.size (slot_inb k)).set

theorem mem_hSet (i : grid0.Coords) (y : S128x4096.Idx) : y ∈ hSet i ↔ (y 0).val / 4 = 2 * (i 1).val + (i 0).val := by
  have hy : (y 1).val < 4096 := (y 1).isLt
  unfold hSet
  rw [Rect.mem_set_unit, k0_off2_eq]
  refine Fin.forall_fin_two.trans ?_
  show (8 * (i 1).val + 4 * (i 0).val ≤ (y 0).val ∧ (y 0).val < 8 * (i 1).val + 4 * (i 0).val + 4) ∧ (0 ≤ (y 1).val ∧ (y 1).val < 0 + 4096) ↔ _
  omega

theorem mem_pSet (i : grid0.Coords) (y : S128.Idx) : y ∈ pSet i ↔ (y 0).val / 8 = (i 1).val := by
  unfold pSet
  rw [Rect.mem_set_unit]
  refine Fin.forall_fin_one.trans ?_
  rw [off3_eq]
  show (8 * (i 1).val ≤ (y 0).val ∧ (y 0).val < 8 * (i 1).val + 8) ↔ _
  omega

theorem mem_cSet (i : grid0.Coords) (ch : Fin 8) (y : S2048x4096.Idx) : y ∈ cSet i ch ↔ (y 0).val / 8 = 16 * (i 1).val + 8 * (i 0).val + ch.val := by
  have hy : (y 1).val < 4096 := (y 1).isLt
  unfold cSet
  rw [Rect.mem_set_unit]
  refine Fin.forall_fin_two.trans ?_
  show (128 * (i 1).val + 64 * (i 0).val + 8 * ch.val ≤ (y 0).val ∧ (y 0).val < 128 * (i 1).val + 64 * (i 0).val + 8 * ch.val + 8) ∧ (0 ≤ (y 1).val ∧ (y 1).val < 0 + 4096) ↔ _
  omega

theorem mem_shSet (i : grid0.Coords) (y : S64x4096.Idx) : y ∈ shSet i ↔ (y 0).val / 4 = (i 1).val := by
  have hy : (y 1).val < 4096 := (y 1).isLt
  unfold shSet
  rw [Rect.mem_set_unit, k0_off1_eq]
  refine Fin.forall_fin_two.trans ?_
  show (4 * (i 1).val ≤ (y 0).val ∧ (y 0).val < 4 * (i 1).val + 4) ∧ (0 ≤ (y 1).val ∧ (y 1).val < 0 + 4096) ↔ _
  omega

theorem mem_srSet (i : grid0.Coords) (k : Fin 4) (y : S64x4096.Idx) : y ∈ srSet i k ↔ (y 0).val = 4 * (i 1).val + k.val := by
  have hy : (y 1).val < 4096 := (y 1).isLt
  unfold srSet
  rw [Rect.mem_set_unit]
  refine Fin.forall_fin_two.trans ?_
  show (4 * (i 1).val + k.val ≤ (y 0).val ∧ (y 0).val < 4 * (i 1).val + k.val + 1) ∧ (0 ≤ (y 1).val ∧ (y 1).val < 0 + 4096) ↔ _
  omega

theorem mem_slSet (k : Fin 3) (y : S3x8x4096.Idx) : y ∈ slSet k ↔ (y 0).val = k.val := by
  have h1 : (y 1).val < 8 := (y 1).isLt
  have h2 : (y 2).val < 4096 := (y 2).isLt
  unfold slSet
  rw [Rect.mem_set_unit]
  refine ⟨fun h => ?_, fun h a => ?_⟩
  · have h0 : k.val ≤ (y 0).val ∧ (y 0).val < k.val + 1 := h 0
    omega
  · match a with
    | 0 => show k.val ≤ (y 0).val ∧ (y 0).val < k.val + 1; omega
    | 1 => show 0 ≤ (y 1).val ∧ (y 1).val < 0 + 8; omega
    | 2 => show 0 ≤ (y 2).val ∧ (y 2).val < 0 + 4096; omega

/-! ## What a tile's slices hold -/

section
variable [FloatOps F] (d : Dev nD) (i : grid0.Coords) {q : PosShare TreeShare}

theorem has_hblk (f : S128x4096.Idx → Elt F .f32) : Has (th d i) (hblk hV i) q (hsOf i f) = (hLoc d ↦[hSet i]{q} f : sProp 𝕄) :=
  (has_eq rfl).trans (congrArg (fun I => hLoc d ↦[I]{q} f) (View.set_slice_whole _ _))
theorem has_pblk (f : S128.Idx → Elt F .i32) : Has (th d i) (pblk pV i) q (posOf i f) = (pLoc d ↦[pSet i]{q} f : sProp 𝕄) :=
  (has_eq rfl).trans (congrArg (fun I => pLoc d ↦[I]{q} f) (View.set_slice_whole _ _))
theorem has_bchunk (f : S2048x4096.Idx → Elt F .f32) (ch : Fin 8) : Has (th d i) (chunk bV i ch) q (chunkOf i f ch) = (bLoc d ↦[cSet i ch]{q} f : sProp 𝕄) :=
  (has_eq rfl).trans (congrArg (fun I => bLoc d ↦[I]{q} f) (View.set_slice_whole _ _))
theorem has_ochunk (f : S2048x4096.Idx → Elt F .f32) (ch : Fin 8) : Has (th d i) (chunk oV i ch) q (chunkOf i f ch) = (oLoc d ↦[cSet i ch]{q} f : sProp 𝕄) :=
  (has_eq rfl).trans (congrArg (fun I => oLoc d ↦[I]{q} f) (View.set_slice_whole _ _))

theorem room_sblk : Room (th d i) (sblk sV i) = (iprop(∃ f, shLoc d (cV i) ↦[shSet i]{fullShare} f) : sProp 𝕄) :=
  congrArg (fun I => (iprop(∃ f, shLoc d (cV i) ↦[I]{fullShare} f) : sProp 𝕄)) (View.set_slice_whole _ _)

theorem room_slot0 : Room (th d i) (slot0 tV) = (iprop(∃ f, (th d i).loc cc0_scratch1 ↦[slSet 0]{fullShare} f) : sProp 𝕄) :=
  congrArg (fun I => (iprop(∃ f, (th d i).loc cc0_scratch1 ↦[I]{fullShare} f) : sProp 𝕄)) ((View.set_reshape _ _).trans (View.set_slice_whole _ _))
theorem room_slot1 : Room (th d i) (slot1 tV) = (iprop(∃ f, (th d i).loc cc0_scratch1 ↦[slSet 1]{fullShare} f) : sProp 𝕄) :=
  congrArg (fun I => (iprop(∃ f, (th d i).loc cc0_scratch1 ↦[I]{fullShare} f) : sProp 𝕄)) ((View.set_reshape _ _).trans (View.set_slice_whole _ _))
theorem room_slot2 : Room (th d i) (slot2 tV) = (iprop(∃ f, (th d i).loc cc0_scratch1 ↦[slSet 2]{fullShare} f) : sProp 𝕄) :=
  congrArg (fun I => (iprop(∃ f, (th d i).loc cc0_scratch1 ↦[I]{fullShare} f) : sProp 𝕄)) ((View.set_reshape _ _).trans (View.set_slice_whole _ _))

theorem room_pos : Room (th d i) xV = (iprop(∃ f, (th d i).loc cc0_scratch0 ↦{fullShare} f) : sProp 𝕄) :=
  congrArg (fun I => (iprop(∃ f, (th d i).loc cc0_scratch0 ↦[I]{fullShare} f) : sProp 𝕄)) (View.set_whole _)

/-! ## The scratch buffer in its slots -/

theorem slots_apart (k k' : Fin 3) (y : S3x8x4096.Idx) (h : y ∈ slSet k) (h' : y ∈ slSet k') : k = k' :=
  Fin.ext (((mem_slSet k y).mp h).symm.trans ((mem_slSet k' y).mp h'))
theorem slots_cover (y : S3x8x4096.Idx) : ∃ k, y ∈ slSet k := ⟨(y 0 : Fin 3), (mem_slSet _ y).mpr rfl⟩

/-- The three slots one by one, -/
theorem each_slot (Φ : Fin 3 → sProp 𝕄) : bigSep Finset.univ Φ = iprop(Φ 0 ∗ Φ 1 ∗ Φ 2) :=
  bigSep_univ_eq_bigSepL [0, 1, 2] (by decide) (by decide) Φ
/-- the four new rows, -/
theorem each_new (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- and the eight chunks. -/
theorem each_chunk (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Elements held, in disjoint pieces that cover them. -/
theorem pieces {ℓ : Loc nD τ sig} {T : Type} [Fintype T] {I : Finset (Idx ℓ)} {K : T → Finset (Idx ℓ)} (h : ∀ t t' y, y ∈ K t → y ∈ K t' → t = t')
    (hI : ∀ y, y ∈ I ↔ ∃ t, y ∈ K t) (f : Buf (Elt F) ℓ) : (ℓ ↦[I]{q} f : sProp 𝕄) = bigSep Finset.univ fun t => ℓ ↦[K t]{q} f := by
  classical
  rw [← pointsTo_biUnion Finset.univ K fun t _ t' _ hne => Finset.disjoint_left.mpr fun y h1 h2 => hne (h t t' y h1 h2)]
  rw [show I = Finset.univ.biUnion K from Finset.ext fun y => (hI y).trans ⟨fun ⟨t, ht⟩ => Finset.mem_biUnion.mpr ⟨t, Finset.mem_univ t, ht⟩,
    fun hy => let ⟨t, _, ht⟩ := Finset.mem_biUnion.mp hy; ⟨t, ht⟩⟩]

/-- Pieces at some contents each are the whole at some contents. -/
theorem join_exists {ℓ : Loc nD τ sig} {T : Type} [Fintype T] [DecidableEq T] (t₀ : T) {I : Finset (Idx ℓ)} {K : T → Finset (Idx ℓ)}
    (h : ∀ t t' y, y ∈ K t → y ∈ K t' → t = t') (hI : ∀ y, y ∈ I ↔ ∃ t, y ∈ K t) :
    (bigSep Finset.univ fun t => iprop(∃ f, ℓ ↦[K t]{q} f)) ⊢ (iprop(∃ f, ℓ ↦[I]{q} f) : sProp 𝕄) := by
  classical
  refine (bigSep_exists_pi Finset.univ (fun t (f : Buf (Elt F) ℓ) => ℓ ↦[K t]{q} f)).trans ?_
  iintro ⟨%fs, H⟩
  ihave H' := (pointsTo_biUnion_join Finset.univ K fs (fs t₀) fun t _ t' _ hne => Finset.disjoint_left.mpr fun y h1 h2 => hne (h t t' y h1 h2)) $$ H
  icases H' with ⟨%g, -, Hg⟩
  rw [show I = Finset.univ.biUnion K from Finset.ext fun y => (hI y).trans ⟨fun ⟨t, ht⟩ => Finset.mem_biUnion.mpr ⟨t, Finset.mem_univ t, ht⟩,
    fun hy => let ⟨t, _, ht⟩ := Finset.mem_biUnion.mp hy; ⟨t, ht⟩⟩]
  iexists g; iexact Hg

/-- The whole at some contents is the pieces at some contents each. -/
theorem split_exists {ℓ : Loc nD τ sig} {T : Type} [Fintype T] {I : Finset (Idx ℓ)} {K : T → Finset (Idx ℓ)}
    (h : ∀ t t' y, y ∈ K t → y ∈ K t' → t = t') (hI : ∀ y, y ∈ I ↔ ∃ t, y ∈ K t) :
    (iprop(∃ f, ℓ ↦[I]{q} f) : sProp 𝕄) ⊢ bigSep Finset.univ fun t => iprop(∃ f, ℓ ↦[K t]{q} f) := by
  iintro ⟨%f, H⟩
  iapply ((Entails.of_eq (pieces h hI f)).trans (SparseCore.ent (bigSep_mono (Φ := fun t => (ℓ ↦[K t]{q} f : sProp 𝕄))
    (Ψ := fun t => iprop(∃ f, ℓ ↦[K t]{q} f)) fun t _ => BI.BIClass.exists_intro (Φ := fun f => (ℓ ↦[K t]{q} f : sProp 𝕄)) f))) $$ H

theorem slots_eq : (iprop(∃ f, (th d i).loc cc0_scratch1 ↦{fullShare} f) : sProp 𝕄)
    = iprop(Room (th d i) (slot0 tV) ∗ Room (th d i) (slot1 tV) ∗ Room (th d i) (slot2 tV)) := by
  rw [room_slot0, room_slot1, room_slot2, ← each_slot (fun k => iprop(∃ f, (th d i).loc cc0_scratch1 ↦[slSet k]{fullShare} f))]
  have hI : ∀ y : Idx ((th d i).loc cc0_scratch1), y ∈ Finset.univ ↔ ∃ k, y ∈ slSet k := fun y => ⟨fun _ => slots_cover y, fun _ => Finset.mem_univ y⟩
  exact (split_exists (ℓ := (th d i).loc cc0_scratch1) slots_apart hI).antisymm (join_exists (ℓ := (th d i).loc cc0_scratch1) 0 slots_apart hI)

/-! ## The tile's four shared rows -/

theorem rows_apart (k k' : Fin 4) (y : S64x4096.Idx) (h : y ∈ srSet i k) (h' : y ∈ srSet i k') : k = k' :=
  Fin.ext (by have := (mem_srSet i k y).mp h; have := (mem_srSet i k' y).mp h'; omega)
theorem rows_cover (y : S64x4096.Idx) : y ∈ shSet i ↔ ∃ k, y ∈ srSet i k := by
  rw [mem_shSet]
  constructor
  · intro h
    exact ⟨⟨(y 0).val % 4, Nat.mod_lt _ (by decide)⟩, (mem_srSet i _ y).mpr (by show _ = _ + (y 0).val % 4; omega)⟩
  · rintro ⟨k, hk⟩
    have := (mem_srSet i k y).mp hk; have := k.isLt; omega

theorem set_srow (k : Fin 4) : (srow sV i k).view.set = srSet i k := View.set_slice_whole _ _
theorem set_sblk : (sblk sV i).view.set = shSet i := View.set_slice_whole _ _

/-- Row `k` alone and row `k` of the four sit at the same places. -/
theorem row_emb (k : Fin 4) (x : S1x4096.Idx) : (Rect.unit (s := S64x4096) (rowOff i k) S1x4096.size (row_inb i k)).emb x
    = (Rect.unit (s := S64x4096) (k0_off1 i) S4x4096.size (k0_off1_inb i)).emb (Shape.pair (d := ![4, 4096]) (k : Fin 4) (x 1)) := by
  funext a
  match a with
  | 0 =>
    refine Fin.ext ?_
    have hx : (x 0).val < 1 := (x 0).isLt
    show 4 * (i 1).val + k.val + 1 * (x 0).val = k0_off1 i 0 + 1 * k.val
    rw [k0_off1_eq]
    show _ = 4 * (i 1).val + 1 * k.val
    omega
  | 1 =>
    refine Fin.ext ?_
    show 0 + 1 * (x 1).val = k0_off1 i 1 + 1 * (x 1).val
    rw [k0_off1_eq]; rfl

/-- The four rows landed, taken apart. -/
theorem rows_split (H : S4x4096.Idx → Elt F .f32) :
    Has (th d i) (sblk sV i) fullShare H ⊢ (bigSep Finset.univ fun k : Fin 4 => Has (th d i) (srow sV i k) fullShare
      (fun x => H (Shape.pair (d := ![4, 4096]) (k : Fin 4) (x 1))) : sProp 𝕄) := by
  unfold Has
  iintro ⟨%g, %hg, Hp⟩
  ihave Hp' := (show ((sblk sV i).view.loc (th d i) ↦[(sblk sV i).view.set]{fullShare} g : sProp 𝕄) ⊢ _ from Entails.of_eq ((congrArg (fun I => (shLoc d (cV i) ↦[I]{fullShare} g : sProp 𝕄)) (set_sblk i)).trans
      (pieces (ℓ := shLoc d (cV i)) (rows_apart i) (rows_cover i) g))) $$ Hp
  iapply (SparseCore.ent (bigSep_mono (Φ := fun k => (shLoc d (cV i) ↦[srSet i k]{fullShare} g : sProp 𝕄)) fun k _ => ?_)) $$ Hp'
  rw [← set_srow i k]
  refine has_of (c := th d i) (sp := .shared) (m := srow sV i k) (g := g) ?_
  funext x
  rw [← hg]
  show g ((Rect.unit (s := S64x4096) (rowOff i k) S1x4096.size (row_inb i k)).emb x)
    = g ((Rect.unit (s := S64x4096) (k0_off1 i) S4x4096.size (k0_off1_inb i)).emb (Shape.pair (d := ![4, 4096]) (k : Fin 4) (x 1)))
  rw [row_emb]

/-- And put back together, at whatever they read. -/
theorem rows_join (R : Fin 4 → S1x4096.Idx → Elt F .f32) :
    (bigSep Finset.univ fun k : Fin 4 => Has (th d i) (srow sV i k) fullShare (R k)) ⊢ (Room (th d i) (sblk sV i) : sProp 𝕄) := by
  rw [room_sblk]
  refine (bigSep_mono (Ψ := fun k : Fin 4 => (iprop(∃ f, shLoc d (cV i) ↦[srSet i k]{fullShare} f) : sProp 𝕄)) fun k _ => ?_).trans
    (join_exists (ℓ := shLoc d (cV i)) 0 (rows_apart i) (rows_cover i))
  refine Has.room.trans (Entails.of_eq ?_)
  exact congrArg (fun I => (iprop(∃ f, shLoc d (cV i) ↦[I]{fullShare} f) : sProp 𝕄)) (set_srow i k)

end

end Cert.Proof.Roll
-- ==== Proof.Tile.lean ====
/-
  The body as the launch runs it: a tile given its pieces of the arrays, its rows of the shared scratch
  and its own scratch brings the pieces back, the result's at `outVal`.
-/
module

public import proofs.«01_k».proof.Proof.Pieces

@[expose] public section

set_option maxRecDepth 16384

noncomputable section

namespace Cert.Proof.Roll

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F] (d : Dev nD) (i : grid0.Coords)

/-! ## A tile's own semaphores and buffers -/

/-- The sixteen copy semaphores one by one. -/
theorem each_sem (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- A copy semaphore of the tile's. -/
abbrev dcell (k : Fin 16) : GSem nD τ sig := (th d i, .dma (k : DmaSem sig))

theorem dcell_inj : Set.InjOn (dcell d i) ((Finset.univ : Finset (Fin 16)) : Set _) := fun _ _ _ _ e => SemLoc.dma.inj (Prod.mk.inj e).2

theorem dma_scoped : ∀ k : Fin 16, (SemLoc.dma (k : DmaSem sig) : SemLoc sig).isScoped .scVector = true := by decide

/-- The tile's semaphores: its sixteen copy semaphores and the rest. -/
theorem ownSems0_V : (ownSems0 (th d i) : sProp 𝕄)
    = iprop((bigSep Finset.univ fun k : Fin 16 => semVal (dcell d i k) 0)
        ∗ bigSep (ownCells (th d i) \ Finset.univ.image (dcell d i)) fun g => semVal g 0) := by
  unfold SparseCore.Cfg.ownSems0
  rw [SparseCore.bigSep_sdiff_split' (t := Finset.univ.image (dcell d i)) (fun g hg => by
      obtain ⟨k, -, rfl⟩ := Finset.mem_image.mp hg
      exact (mem_ownCells (g := dcell d i k)).mpr ⟨rfl, dma_scoped k⟩),
    SparseCore.bigSep_image_of_injOn (dcell_inj d i)]

/-- The tile's buffers: its two scratch buffers and the rest. -/
theorem ownBufs_V : (ownBufs (th d i) : sProp 𝕄)
    = iprop((∃ f, (th d i).loc cc0_scratch0 ↦{fullShare} f) ∗ (∃ f, (th d i).loc cc0_scratch1 ↦{fullShare} f)
        ∗ bigSep (((ownRefs (τ := τ) (.scVector (cV i) (jV i))).erase ((Proc.scVector (cV i) (jV i)).devRef cc0_scratch0)).erase ((Proc.scVector (cV i) (jV i)).devRef cc0_scratch1))
            fun b => iprop(∃ f, ((d, b) : Loc nD τ sig) ↦{fullShare} f)) := by
  unfold SparseCore.Cfg.ownBufs
  rw [SparseCore.bigSep_erase' (SparseCore.Cfg.mem_ownRefs_of_owner (p := Proc.scVector (cV i) (jV i)) (b := (Proc.scVector (cV i) (jV i)).devRef cc0_scratch0) rfl),
    SparseCore.bigSep_erase' (Finset.mem_erase.mpr ⟨fun h => absurd (Proc.devRef_injective _ h) (show ¬ (cc0_scratch1 : Ref sig .scVector) = cc0_scratch0 by decide),
      SparseCore.Cfg.mem_ownRefs_of_owner (p := Proc.scVector (cV i) (jV i)) (b := (Proc.scVector (cV i) (jV i)).devRef cc0_scratch1) rfl⟩)]

/-! ## The body from the pieces -/

/-- The share of the positions core `c`'s tiles hold: each core one half. -/
def halfOf (c : Fin 2) : PosShare TreeShare := if c = 0 then fullShare.left else fullShare.right

/-- A tile's pieces of the arrays, at given contents. -/
def tileHas (pos : S128.Idx → Elt F .i32) (hs : S128x4096.Idx → Elt F .f32) (buf out : S2048x4096.Idx → Elt F .f32) : sProp 𝕄 :=
  iprop((hLoc d ↦[hSet i]{fullShare} hs) ∗ (pLoc d ↦[pSet i]{halfOf (i 0)} pos)
    ∗ (bigSep Finset.univ fun ch : Fin 8 => bLoc d ↦[cSet i ch]{fullShare} buf) ∗ (bigSep Finset.univ fun ch : Fin 8 => oLoc d ↦[cSet i ch]{fullShare} out))

/-- A tile's rows of the shared scratch. -/
def shHas : sProp 𝕄 := iprop(∃ f, shLoc d (cV i) ↦[shSet i]{fullShare} f)

set_option maxHeartbeats 4000000 in
/-- The task on a tile: its pieces of the arrays come back, the result's holding `outVal`. -/
theorem tile_body (pos : S128.Idx → Elt F .i32) (hs : S128x4096.Idx → Elt F .f32) (buf out : S2048x4096.Idx → Elt F .f32)
    (hF : (K (F := F)).Facts) (O : CellTallies nD τ sig (HIx 1)) (W : Waits sig (HIx 1)) (hO : ∀ g, O g none = 0) :
    iprop(levAts (K (F := F)).L (K (F := F)).lev ∗ emp ∗ (tileHas d i pos hs buf out ∗ shHas d i)
        ∗ scopedBufs (th d i) ∗ scopedSems0 (th d i) ∗ owes (th d i) O W)
      ⊢ wp frame (wpE (defs₀ (F := F)) 𝒱₀ (th d i) none) Set.univ
          (cc0__sc_update i pV (Memref.isWhole_whole _) hV (Memref.isWhole_whole _) bV (Memref.isWhole_whole _) oV (Memref.isWhole_whole _)
            xV (Memref.isWhole_whole _) tV (Memref.isWhole_whole _) sV (Memref.isWhole_whole _)
            cc0_scratch3 cc0_scratch4 cc0_scratch5 cc0_scratch6 cc0_scratch7 cc0_scratch8 cc0_scratch9
            cc0_scoped0 cc0_scoped1 cc0_scoped2 cc0_scoped3 cc0_scoped4 cc0_scoped5 cc0_scoped6 cc0_scoped7 cc0_scoped8)
          fun _ => iprop((tileHas d i pos hs buf (outVal pos hs buf) ∗ shHas d i)
            ∗ scopedBufs (th d i) ∗ scopedSems0 (th d i) ∗ ∃ W', ⌜∀ p ∈ W', p ∈ W ∨ p.2 = none⌝ ∗ owes (th d i) O W') := by
  rw [(K (F := F)).scopedBufs_V hF d (cV i) (jV i), SparseCore.Cfg.scopedSems0_V (Val := Elt F) d (cV i) (jV i), ownSems0_V, ownBufs_V, slots_eq,
    each_sem]
  unfold tileHas shHas
  rw [← room_sblk, ← room_pos]
  simp only [← has_hblk, ← has_pblk, ← has_bchunk, ← has_ochunk, each_chunk]
  iintro ⟨#Hlv, -, ⟨⟨Hh, Hp, Hb, ⟨O0, O1, O2, O3, O4, O5, O6, O7⟩⟩, Hsh⟩, ⟨Hx, Hsl, Hbufs⟩, ⟨⟨S9, S10, S11, S12, S13, S14, S15, V0, V1, V2, V3, V4, V5, V6, V7, V8⟩, Hsems⟩, HO⟩
  iapply (body d i pV (Memref.isWhole_whole _) hV (Memref.isWhole_whole _) bV (Memref.isWhole_whole _) oV (Memref.isWhole_whole _)
      xV (Memref.isWhole_whole _) tV (Memref.isWhole_whole _) sV (Memref.isWhole_whole _)
      cc0_scratch3 cc0_scratch4 cc0_scratch5 cc0_scratch6 cc0_scratch7 cc0_scratch8 cc0_scratch9
      cc0_scoped0 cc0_scoped1 cc0_scoped2 cc0_scoped3 cc0_scoped4 cc0_scoped5 cc0_scoped6 cc0_scoped7 cc0_scoped8
      (O := O) (W := W) (q := fullShare) (q' := halfOf (i 0)) (H := hsOf i hs) (P := posOf i pos) (R := hrowOf i hs) (X := chunkOf i buf)
      ((rows_split d i (hsOf i hs)).trans (Entails.of_eq (each_new _)))) $$ [Hh Hp Hb O0 O1 O2 O3 O4 O5 O6 O7 Hsh Hx Hsl S9 S10 S11 S12 S13 S14 S15 V0 V1 V2 V3 V4 V5 V6 V7 V8 HO]
  · isplitl [Hh Hsh S9]
    · isplitl [Hh]; · iexact Hh
      isplitl [Hsh]; · iexact Hsh
      iexact S9
    isplitl [Hp Hx V0]
    · isplitl [Hp]; · iexact Hp
      isplitl [Hx]; · iexact Hx
      iexact V0
    isplitl [Hb]; · iexact Hb
    isplitl [O0 O1 O2 O3 O4 O5 O6 O7]
    · isplitl [O0]; · iapply Has.room; iexact O0
      isplitl [O1]; · iapply Has.room; iexact O1
      isplitl [O2]; · iapply Has.room; iexact O2
      isplitl [O3]; · iapply Has.room; iexact O3
      isplitl [O4]; · iapply Has.room; iexact O4
      isplitl [O5]; · iapply Has.room; iexact O5
      isplitl [O6]; · iapply Has.room; iexact O6
      iapply Has.room; iexact O7
    isplitl [Hsl]; · iexact Hsl
    isplitl [S10 S11 S12 S13 S14 S15]
    · isplitl [S10]; · iexact S10
      isplitl [S11]; · iexact S11
      isplitl [S12]; · iexact S12
      isplitl [S13]; · iexact S13
      isplitl [S14]; · iexact S14
      iexact S15
    isplitl [V1 V2 V3 V4 V5 V6 V7 V8]
    · isplitl [V1]; · iexact V1
      isplitl [V2]; · iexact V2
      isplitl [V3]; · iexact V3
      isplitl [V4]; · iexact V4
      isplitl [V5]; · iexact V5
      isplitl [V6]; · iexact V6
      isplitl [V7]; · iexact V7
      iexact V8
    isplitl [HO]
    · unfold Owed
      iexists W; isplitr
      · ipureintro; exact fun p hp => .inl hp
      · iexact HO
    iapply (show levAts (K (F := F)).L (K (F := F)).lev ⊢ Transfers.MayWaits (th d i) (none : HIx 1) O from (K (F := F)).mayWaits_none (thr := th d i) hO)
    iexact Hlv
  have ho := fun ch => outChunk_eq (F := F) i pos hs buf ch
  simp only [ho]
  iintro ⟨⟨Hh, Hr, S9⟩, ⟨Hp, Hx, V0⟩, Hb, Ho, Hsl, ⟨S10, S11, S12, S13, S14, S15⟩, ⟨V1, V2, V3, V4, V5, V6, V7, V8⟩, HO⟩
  isplitl [Hh Hr Hp Hb Ho]
  · isplitl [Hh Hp Hb Ho]
    · isplitl [Hh]; · iexact Hh
      isplitl [Hp]; · iexact Hp
      isplitl [Hb]; · iexact Hb
      iexact Ho
    · iapply ((Entails.of_eq (each_new _).symm).trans (rows_join d i (hrowOf i hs)))
      iexact Hr
  isplitl [Hx Hsl Hbufs]
  · isplitl [Hx]; · iexact Hx
    isplitl [Hsl]; · iexact Hsl
    iexact Hbufs
  isplitr [HO]
  · isplitr [Hsems]
    · isplitl [S9]; · iexact S9
      isplitl [S10]; · iexact S10
      isplitl [S11]; · iexact S11
      isplitl [S12]; · iexact S12
      isplitl [S13]; · iexact S13
      isplitl [S14]; · iexact S14
      isplitl [S15]; · iexact S15
      isplitl [V0]; · iexact V0
      isplitl [V1]; · iexact V1
      isplitl [V2]; · iexact V2
      isplitl [V3]; · iexact V3
      isplitl [V4]; · iexact V4
      isplitl [V5]; · iexact V5
      isplitl [V6]; · iexact V6
      isplitl [V7]; · iexact V7
      iexact V8
    · iexact Hsems
  unfold Owed
  iexact HO

end Cert.Proof.Roll
-- ==== Proof.Launch.lean ====
/-
  The launch: the arrays dealt to the tiles and gathered back, `main` on the TensorCore, and what the
  whole program leaves, at any float values. The text being the same in both float readings, this one
  run serves the frame of each and the value claim.
-/
module

public import proofs.«01_k».proof.Proof.Tile

@[expose] public section

set_option maxRecDepth 16384

noncomputable section

namespace Cert.Proof.Roll

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## The arrays dealt to the tiles -/

theorem nSub_zero : (K (F := F)).nSub 0 = 16 := rfl
/-- The SparseCore of the call's core number `c`. -/
abbrev coreOf (c : Fin ((K (F := F)).nCore 0)) : Fin τ.nSC := (K (F := F)).core 0 c

/-- The grid point of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

abbrev tileAt (c : Fin 2) (s : Fin 16) : grid0.Coords := coordsV c s

theorem tileAt_0 (c : Fin 2) (s : Fin 16) : ((tileAt c s) 0).val = c.val := rfl
theorem tileAt_1 (c : Fin 2) (s : Fin 16) : ((tileAt c s) 1).val = s.val := rfl

theorem hSet_apart (t t' : Fin 2 × Fin 16) (y : S128x4096.Idx) (h : y ∈ hSet (tileAt t.1 t.2)) (h' : y ∈ hSet (tileAt t'.1 t'.2)) : t = t' := by
  rw [mem_hSet, tileAt_0, tileAt_1] at h h'
  have := t.1.isLt; have := t'.1.isLt
  exact Prod.ext (Fin.ext (by omega)) (Fin.ext (by omega))
theorem hSet_cover (y : S128x4096.Idx) : ∃ t : Fin 2 × Fin 16, y ∈ hSet (tileAt t.1 t.2) := by
  have hy : (y 0).val < 128 := (y 0).isLt
  refine ⟨(⟨(y 0).val / 4 % 2, by omega⟩, ⟨(y 0).val / 8, by omega⟩), ?_⟩
  rw [mem_hSet, tileAt_0, tileAt_1]; dsimp only; omega

theorem pSet_apart (c : Fin 2) (s s' : Fin 16) (y : S128.Idx) (h : y ∈ pSet (tileAt c s)) (h' : y ∈ pSet (tileAt c s')) : s = s' := by
  rw [mem_pSet, tileAt_1] at h h'
  exact Fin.ext (by omega)
theorem pSet_cover (c : Fin 2) (y : S128.Idx) : ∃ s : Fin 16, y ∈ pSet (tileAt c s) := by
  have hy : (y 0).val < 128 := (y 0).isLt
  refine ⟨⟨(y 0).val / 8, by omega⟩, ?_⟩
  rw [mem_pSet, tileAt_1]

theorem cSet_apart (t t' : (Fin 2 × Fin 16) × Fin 8) (y : S2048x4096.Idx) (h : y ∈ cSet (tileAt t.1.1 t.1.2) t.2) (h' : y ∈ cSet (tileAt t'.1.1 t'.1.2) t'.2) : t = t' := by
  rw [mem_cSet, tileAt_0, tileAt_1] at h h'
  have := t.1.1.isLt; have := t'.1.1.isLt; have := t.2.isLt; have := t'.2.isLt
  exact Prod.ext (Prod.ext (Fin.ext (by omega)) (Fin.ext (by omega))) (Fin.ext (by omega))
theorem cSet_cover (y : S2048x4096.Idx) : ∃ t : (Fin 2 × Fin 16) × Fin 8, y ∈ cSet (tileAt t.1.1 t.1.2) t.2 := by
  have hy : (y 0).val < 2048 := (y 0).isLt
  refine ⟨((⟨(y 0).val / 64 % 2, by omega⟩, ⟨(y 0).val / 128, by omega⟩), ⟨(y 0).val / 8 % 8, by omega⟩), ?_⟩
  rw [mem_cSet, tileAt_0, tileAt_1]; dsimp only; omega

theorem shSet_apart (c : Fin 2) (s s' : Fin 16) (y : S64x4096.Idx) (h : y ∈ shSet (tileAt c s)) (h' : y ∈ shSet (tileAt c s')) : s = s' := by
  rw [mem_shSet, tileAt_1] at h h'
  exact Fin.ext (by omega)
theorem shSet_cover (c : Fin 2) (y : S64x4096.Idx) : ∃ s : Fin 16, y ∈ shSet (tileAt c s) := by
  have hy : (y 0).val < 64 := (y 0).isLt
  refine ⟨⟨(y 0).val / 4, by omega⟩, ?_⟩
  rw [mem_shSet, tileAt_1]

section Deal
variable (d : Dev nD)

theorem hs_tiles (f : S128x4096.Idx → Elt F .f32) : (hLoc d ↦{fullShare} f : sProp 𝕄)
    = bigSep Finset.univ fun c : Fin 2 => bigSep Finset.univ fun s : Fin 16 => hLoc d ↦[hSet (tileAt c s)]{fullShare} f :=
  (pieces (ℓ := hLoc d) (K := fun t : Fin 2 × Fin 16 => hSet (tileAt t.1 t.2)) hSet_apart (fun y => ⟨fun _ => hSet_cover y, fun _ => Finset.mem_univ y⟩) f).trans
    (bigSep_univ_prod _)

theorem rows_tiles (ℓ : Loc nD τ sig) (f : Buf (Elt F) ℓ) (K : (Fin 2 × Fin 16) × Fin 8 → Finset (Idx ℓ)) (h : ∀ t t' y, y ∈ K t → y ∈ K t' → t = t')
    (hc : ∀ y, ∃ t, y ∈ K t) : (ℓ ↦{fullShare} f : sProp 𝕄)
    = bigSep Finset.univ fun c : Fin 2 => bigSep Finset.univ fun s : Fin 16 => bigSep Finset.univ fun ch : Fin 8 => ℓ ↦[K ((c, s), ch)]{fullShare} f :=
  (pieces (ℓ := ℓ) (K := K) h (fun y => ⟨fun _ => hc y, fun _ => Finset.mem_univ y⟩) f).trans ((bigSep_univ_prod _).trans (bigSep_univ_prod _))

theorem buf_tiles (f : S2048x4096.Idx → Elt F .f32) : (bLoc d ↦{fullShare} f : sProp 𝕄)
    = bigSep Finset.univ fun c : Fin 2 => bigSep Finset.univ fun s : Fin 16 => bigSep Finset.univ fun ch : Fin 8 => bLoc d ↦[cSet (tileAt c s) ch]{fullShare} f :=
  rows_tiles (bLoc d) f (fun t => cSet (tileAt t.1.1 t.1.2) t.2) cSet_apart cSet_cover
theorem out_tiles (f : S2048x4096.Idx → Elt F .f32) : (oLoc d ↦{fullShare} f : sProp 𝕄)
    = bigSep Finset.univ fun c : Fin 2 => bigSep Finset.univ fun s : Fin 16 => bigSep Finset.univ fun ch : Fin 8 => oLoc d ↦[cSet (tileAt c s) ch]{fullShare} f :=
  rows_tiles (oLoc d) f (fun t => cSet (tileAt t.1.1 t.1.2) t.2) cSet_apart cSet_cover

theorem pos_tiles (f : S128.Idx → Elt F .i32) : (pLoc d ↦{fullShare} f : sProp 𝕄)
    = bigSep Finset.univ fun c : Fin 2 => bigSep Finset.univ fun s : Fin 16 => pLoc d ↦[pSet (tileAt c s)]{halfOf c} f := by
  have hs := pointsTo_share (ℓ := pLoc d) (I := Finset.univ) (f := f) (Ix := HIx 1) (Name := ℕ) (U := UU) (Lvl := ℕ) (PosShare.mem_left_op_right fullShare)
  rw [hs.1.antisymm hs.2, BI.bigSep_fin_two]
  exact congrArg₂ (fun A B => (iprop(A ∗ B) : sProp 𝕄))
    (pieces (ℓ := pLoc d) (K := fun s : Fin 16 => pSet (tileAt 0 s)) (pSet_apart 0) (fun y => ⟨fun _ => pSet_cover 0 y, fun _ => Finset.mem_univ y⟩) f)
    (pieces (ℓ := pLoc d) (K := fun s : Fin 16 => pSet (tileAt 1 s)) (pSet_apart 1) (fun y => ⟨fun _ => pSet_cover 1 y, fun _ => Finset.mem_univ y⟩) f)

/-- The four arrays whole are every tile's pieces of them. -/
theorem arrays_tiles (pos : S128.Idx → Elt F .i32) (hs : S128x4096.Idx → Elt F .f32) (buf out : S2048x4096.Idx → Elt F .f32) :
    (iprop((hLoc d ↦{fullShare} hs) ∗ (pLoc d ↦{fullShare} pos) ∗ (bLoc d ↦{fullShare} buf) ∗ oLoc d ↦{fullShare} out) : sProp 𝕄)
      = bigSep Finset.univ fun c : Fin 2 => bigSep Finset.univ fun s : Fin 16 => tileHas d (tileAt c s) pos hs buf out := by
  unfold tileHas
  simp only [bigSep_sep']
  rw [hs_tiles, pos_tiles, buf_tiles, out_tiles]
  rfl

/-- One SparseCore's shared scratch is its tiles' rows of it. -/
theorem shared_tiles (c : Fin 2) : (iprop(∃ f, shLoc d (c.castLE hcore0) ↦{fullShare} f) : sProp 𝕄)
    = bigSep Finset.univ fun s : Fin 16 => shHas d (tileAt c s) := by
  unfold shHas
  have hI : ∀ y : Idx (shLoc d (c.castLE hcore0)), y ∈ Finset.univ ↔ ∃ s : Fin 16, y ∈ shSet (tileAt c s) := fun y => ⟨fun _ => shSet_cover c y, fun _ => Finset.mem_univ y⟩
  exact (split_exists (ℓ := shLoc d (c.castLE hcore0)) (K := fun s : Fin 16 => shSet (tileAt c s)) (shSet_apart c) hI).antisymm
    (join_exists (ℓ := shLoc d (c.castLE hcore0)) 0 (K := fun s : Fin 16 => shSet (tileAt c s)) (shSet_apart c) hI)

end Deal

/-! ## The values, and what the handshakes carry -/

variable (m : (ℓ : Loc nD τ sig) → Buf (Elt F) ℓ) (ρ : Dev nD → PrngReg) (d : Dev nD)

abbrev aLoc0 (d : Dev nD) : Loc nD τ sig := (SparseCore.T d).loc main_arg0
abbrev aLoc2 (d : Dev nD) : Loc nD τ sig := (SparseCore.T d).loc main_arg2
abbrev aLoc3 (d : Dev nD) : Loc nD τ sig := (SparseCore.T d).loc main_arg3
abbrev rLoc (d : Dev nD) : Loc nD τ sig := (SparseCore.T d).loc main_v3

/-- The positions, the new rows of state and the buffer, in the shapes the call takes them in. -/
def posM : S128.Idx → Elt F .i32 := m (pLoc d)
def hsM : S128x4096.Idx → Elt F .f32 := shapeCast (s := S128x1x4096) S128x4096 (m (aLoc2 d)) shapeCasts_S128x1x4096_S128x4096
def bufM : S2048x4096.Idx → Elt F .f32 := shapeCast (s := S128x16x4096) S2048x4096 (m (aLoc3 d)) shapeCasts_S128x16x4096_S2048x4096
/-- What the call leaves, and the program's result. -/
def outM : S2048x4096.Idx → Elt F .f32 := outVal (posM m d) (hsM m d) (bufM m d)
def resM : S128x16x4096.Idx → Elt F .f32 := shapeCast (s := S2048x4096) S128x16x4096 (outM m d) shapeCasts_S2048x4096_S128x16x4096

abbrev tileIn (c : Fin 2) (s : Fin 16) : sProp 𝕄 := tileHas d (tileAt c s) (posM m d) (hsM m d) (bufM m d) (m (oLoc d))
abbrev tileOut (c : Fin 2) (s : Fin 16) : sProp 𝕄 := tileHas d (tileAt c s) (posM m d) (hsM m d) (bufM m d) (outM m d)

instance tileHas_storable (i : grid0.Coords) (pos : S128.Idx → Elt F .i32) (hs : S128x4096.Idx → Elt F .f32) (buf out : S2048x4096.Idx → Elt F .f32) :
    BI.Storable (upEmb : UEmb _ 𝕄) (tileHas d i pos hs buf out) := by unfold tileHas; infer_instance
instance shHas_storable (i : grid0.Coords) : BI.Storable (upEmb : UEmb _ 𝕄) (shHas (F := F) d i) := by unfold shHas; infer_instance

/-- Each SparseCore takes its tiles' pieces and gives them back, the result's at the value; each tile its own, with its rows
    of the shared scratch. -/
def P : (K (F := F)).Pay (nD := nD) (Val := Elt F) (Name := ℕ) (U := UU) where
  st := fun q d c => match q with | 0 => bigSep Finset.univ fun s : Fin 16 => tileIn m d c s
  dn := fun q d c => match q with | 0 => bigSep Finset.univ fun s : Fin 16 => tileOut m d c s
  go := fun q d c s => match q with | 0 => iprop(tileIn m d c s ∗ shHas d (tileAt c s))
  td := fun q d c s => match q with | 0 => iprop(tileOut m d c s ∗ shHas d (tileAt c s))
  x := fun _ _ => iprop(emp)

instance P_storable : (P (F := F) m).IsStorable where
  st q d c := match q with
    | 0 => (inferInstance : BI.Storable (upEmb : UEmb _ 𝕄) (bigSep Finset.univ fun s : Fin 16 => tileIn m d c s))
  dn q d c := match q with
    | 0 => (inferInstance : BI.Storable (upEmb : UEmb _ 𝕄) (bigSep Finset.univ fun s : Fin 16 => tileOut m d c s))
  go q d c s := match q with
    | 0 => (inferInstance : BI.Storable (upEmb : UEmb _ 𝕄) iprop(tileIn m d c s ∗ shHas d (tileAt c s)))
  td q d c s := match q with
    | 0 => (inferInstance : BI.Storable (upEmb : UEmb _ 𝕄) iprop(tileOut m d c s ∗ shHas d (tileAt c s)))

/-! ## The tile's obligation -/

theorem defs₀_vector (c : Fin τ.nSC) (s : Fin τ.nSub) :
    defs₀ (F := F) (.scVector c s) 0 ()
      = SparseCore.onTile hcore0 hsub0 (fun c s => cc0__sc_update (coordsV c s)
          (Memref.whole main_arg1_scv) (Memref.isWhole_whole _) (Memref.whole main_v0_scv) (Memref.isWhole_whole _) (Memref.whole main_v1_scv) (Memref.isWhole_whole _)
          (Memref.whole main_v2_scv) (Memref.isWhole_whole _) (Memref.whole cc0_scratch0) (Memref.isWhole_whole _) (Memref.whole cc0_scratch1) (Memref.isWhole_whole _)
          (Memref.whole cc0_scratch2) (Memref.isWhole_whole _) cc0_scratch3 cc0_scratch4 cc0_scratch5 cc0_scratch6 cc0_scratch7 cc0_scratch8 cc0_scratch9
          cc0_scoped0 cc0_scoped1 cc0_scoped2 cc0_scoped3 cc0_scoped4 cc0_scoped5 cc0_scoped6 cc0_scoped7 cc0_scoped8) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c s O W hO _ _
  have hci : ((K (F := F)).core 0 c).val < grid0.bound 0 ∧ ((K (F := F)).sub 0 s).val < grid0.bound 1 := ⟨c.isLt, s.isLt⟩
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (posM m d) (hsM m d) (bufM m d) (m (oLoc d)) hF O W hO).trans (wp_mono frame _ _ fun _ => obl_post)

/-! ## A SparseCore's share split among its tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The shared scratch is among the sequencer's own buffers: it is it, at some contents, and the rest. -/
theorem ownBufs_S (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop((bigSep Finset.univ fun s : Fin 16 => tileIn m d c s) ∗ ownBufs (S d (coreOf c))) ⊢ |={Set.univ}=> iprop(
      (bigSep Finset.univ fun i : Fin ((K (F := F)).nSub 0) => iprop(tileIn m d c (Fin.cast nSub_zero i) ∗ shHas d (tileAt c (Fin.cast nSub_zero i))))
      ∗ ((bigSep Finset.univ fun i : Fin ((K (F := F)).nSub 0) => iprop(tileOut m d c (Fin.cast nSub_zero i) ∗ shHas d (tileAt c (Fin.cast nSub_zero i))))
          -∗ iprop((bigSep Finset.univ fun s : Fin 16 => tileOut m d c s) ∗ ownBufs (S d (coreOf c)))))
  rw [bigSep_tasks (F := F) (fun s => iprop(tileIn m d c s ∗ shHas d (tileAt c s))), bigSep_tasks (F := F) (fun s => iprop(tileOut m d c s ∗ shHas d (tileAt c s))),
    bigSep_sep', bigSep_sep', ownBufs_S]
  iintro ⟨Ht, Hsh, Hrest⟩; imodintro
  isplitl [Ht Hsh]
  · isplitl [Ht]; · iexact Ht
    iapply (Entails.of_eq (shared_tiles d c)); iexact Hsh
  iintro ⟨Ht, Hsh⟩
  isplitl [Ht]; · iexact Ht
  isplitl [Hsh]; · iapply (Entails.of_eq (shared_tiles d c).symm); iexact Hsh
  iexact Hrest

/-! ## The launch element: the handshakes' rounds; nothing of the kernel's own -/

def u₀ : UU := (initOf (K (F := F)).hsCells (K (F := F)).hsToks, 1)

/-- Nothing, however often, is nothing. -/
theorem nothing_each {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothing_each]; iempintro
  unfold P; dsimp only
  rw [show (bigSep Finset.univ fun _ : Thread nD τ => bigSep Finset.univ fun _ : Fin 1 => (iprop(emp) : sProp 𝕄)) = iprop(emp) from by
    rw [bigSep_congr fun _ _ => nothing_each _, nothing_each]]
  iempintro

/-! ## `main` on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev h' : DevRef τ sig := Proc.devRef .tc (main_v0 : Ref sig .tc)
abbrev b' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opH : HloOp τ sig (Elt F) := StableHlo.reshape main_arg2 main_v0 (rfl : (.f32 : EltTy) = .f32) shapeCasts_S128x1x4096_S128x4096
abbrev opB : HloOp τ sig (Elt F) := StableHlo.reshape main_arg3 main_v1 (rfl : (.f32 : EltTy) = .f32) shapeCasts_S128x16x4096_S2048x4096
abbrev opR : HloOp τ sig (Elt F) := StableHlo.reshape main_v2 main_v3 (rfl : (.f32 : EltTy) = .f32) shapeCasts_S2048x4096_S128x16x4096

/-- The TensorCore's arrays. -/
abbrev S8' : Finset (DevRef τ sig) := {a0', a1', a2', a3', h', b', o', r'}

theorem held_S8 (W : Valuation τ sig (Elt F)) :
    (held (T d) S8' W : sProp 𝕄) = iprop((aLoc0 d ↦{fullShare} W a0') ∗ (pLoc d ↦{fullShare} W a1') ∗ (aLoc2 d ↦{fullShare} W a2') ∗ (aLoc3 d ↦{fullShare} W a3')
      ∗ (hLoc d ↦{fullShare} W h') ∗ (bLoc d ↦{fullShare} W b') ∗ (oLoc d ↦{fullShare} W o') ∗ rLoc d ↦{fullShare} W r') := by
  unfold held S8'
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, -/
def V0 : Valuation τ sig (Elt F) := fun b => m (d, b)
/-- as the call finds it, -/
def V2 : Valuation τ sig (Elt F) := (opB (F := F)).result ((opH (F := F)).result (V0 m d))
/-- as the call leaves it, -/
def V3 : Valuation τ sig (Elt F) := Function.update (V2 m d) o' (outM m d)
/-- and at the end. -/
def V4 : Valuation τ sig (Elt F) := (opR (F := F)).result (V3 m d)

theorem unscoped_held : (unscopedBufs d (fun b => m ((SparseCore.T d).loc b)) : sProp 𝕄) = held (T d) S8' (V0 m d) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton, held_S8]
  rfl

theorem V2_of {r : Ref sig .tc} (h0 : r ≠ main_v0) (h1 : r ≠ main_v1) : V2 m d (Proc.devRef .tc r) = m ((SparseCore.T d).loc r) := by
  unfold V2
  rw [StableHlo.reshape_result_ne (h := h1), StableHlo.reshape_result_ne (h := h0)]; rfl
theorem V2_h : V2 m d h' = hsM m d := by
  unfold V2
  rw [StableHlo.reshape_result_ne (h := (show (main_v0 : Ref sig .tc) ≠ main_v1 by decide)), StableHlo.reshape_result]; rfl
theorem V2_b : V2 m d b' = bufM m d := by
  unfold V2
  rw [StableHlo.reshape_result, StableHlo.reshape_result_ne (h := (show (main_arg3 : Ref sig .tc) ≠ main_v0 by decide))]; rfl

theorem V3_o : V3 m d o' = outM m d := Function.update_self _ _ _
theorem V3_of {b : DevRef τ sig} (h : b ≠ o') : V3 m d b = V2 m d b := Function.update_of_ne h _ _
theorem V4_of {r : Ref sig .tc} (h0 : r ≠ main_v0) (h1 : r ≠ main_v1) (h2 : Proc.devRef .tc r ≠ o') (h3 : r ≠ main_v3) :
    V4 m d (Proc.devRef .tc r) = m ((SparseCore.T d).loc r) := by
  unfold V4
  rw [StableHlo.reshape_result_ne (h := h3), V3_of m d h2, V2_of m d h0 h1]
theorem V4_r : V4 m d r' = resM m d := by
  unfold V4
  rw [StableHlo.reshape_result, V3_o]; rfl

theorem hH : (opH (F := F)).bufs ⊆ S8' := show ({a2', h'} : Finset (DevRef τ sig)) ⊆ S8' by decide
theorem hB : (opB (F := F)).bufs ⊆ S8' := show ({a3', b'} : Finset (DevRef τ sig)) ⊆ S8' by decide
theorem hR : (opR (F := F)).bufs ⊆ S8' := show ({o', r'} : Finset (DevRef τ sig)) ⊆ S8' by decide

/-- What the call takes for the two SparseCores, and what it hands back. -/
theorem st0_eq : (bigSep Finset.univ fun c : Fin ((K (F := F)).nCore 0) => (P m).st 0 d c)
    = iprop((hLoc d ↦{fullShare} hsM m d) ∗ (pLoc d ↦{fullShare} posM m d) ∗ (bLoc d ↦{fullShare} bufM m d) ∗ oLoc d ↦{fullShare} m (oLoc d)) :=
  (arrays_tiles d _ _ _ _).symm
theorem dn0_eq : (bigSep Finset.univ fun c : Fin ((K (F := F)).nCore 0) => (P m).dn 0 d c)
    = iprop((hLoc d ↦{fullShare} hsM m d) ∗ (pLoc d ↦{fullShare} posM m d) ∗ (bLoc d ↦{fullShare} bufM m d) ∗ oLoc d ↦{fullShare} outM m d) :=
  (arrays_tiles d _ _ _ _).symm

/-- What `main` leaves the claim: the arguments at their launch contents, the result at its value. -/
abbrev FIN : sProp 𝕄 := iprop((aLoc0 d ↦{fullShare} m (aLoc0 d)) ∗ (pLoc d ↦{fullShare} m (pLoc d)) ∗ (aLoc2 d ↦{fullShare} m (aLoc2 d))
  ∗ (aLoc3 d ↦{fullShare} m (aLoc3 d)) ∗ rLoc d ↦{fullShare} resM m d)

theorem fin_of_held : (held (T d) S8' (V4 m d) : sProp 𝕄) ⊢ FIN m d := by
  rw [held_S8, V4_r, V4_of m d (r := main_arg0) (by decide) (by decide) (by decide) (by decide), V4_of m d (r := main_arg1) (by decide) (by decide) (by decide) (by decide),
    V4_of m d (r := main_arg2) (by decide) (by decide) (by decide) (by decide), V4_of m d (r := main_arg3) (by decide) (by decide) (by decide) (by decide)]
  iintro ⟨H0, H1, H2, H3, -, -, -, Hr⟩
  isplitl [H0]; · iexact H0
  isplitl [H1]; · iexact H1
  isplitl [H2]; · iexact H2
  isplitl [H3]; · iexact H3
  iexact Hr

/-- The TensorCore's arrays as the call finds them. -/
theorem held_before : (held (T d) S8' (V2 m d) : sProp 𝕄)
    = iprop((aLoc0 d ↦{fullShare} m (aLoc0 d)) ∗ (pLoc d ↦{fullShare} posM m d) ∗ (aLoc2 d ↦{fullShare} m (aLoc2 d)) ∗ (aLoc3 d ↦{fullShare} m (aLoc3 d))
      ∗ (hLoc d ↦{fullShare} hsM m d) ∗ (bLoc d ↦{fullShare} bufM m d) ∗ (oLoc d ↦{fullShare} m (oLoc d)) ∗ rLoc d ↦{fullShare} m (rLoc d)) := by
  rw [held_S8, V2_h, V2_b, V2_of m d (r := main_arg0) (by decide) (by decide), V2_of m d (r := main_arg1) (by decide) (by decide),
    V2_of m d (r := main_arg2) (by decide) (by decide), V2_of m d (r := main_arg3) (by decide) (by decide), V2_of m d (r := main_v2) (by decide) (by decide),
    V2_of m d (r := main_v3) (by decide) (by decide)]
  rfl
/-- And as it leaves them. -/
theorem held_after : (held (T d) S8' (V3 m d) : sProp 𝕄)
    = iprop((aLoc0 d ↦{fullShare} m (aLoc0 d)) ∗ (pLoc d ↦{fullShare} posM m d) ∗ (aLoc2 d ↦{fullShare} m (aLoc2 d)) ∗ (aLoc3 d ↦{fullShare} m (aLoc3 d))
      ∗ (hLoc d ↦{fullShare} hsM m d) ∗ (bLoc d ↦{fullShare} bufM m d) ∗ (oLoc d ↦{fullShare} outM m d) ∗ rLoc d ↦{fullShare} m (rLoc d)) := by
  rw [held_S8, V3_o, V3_of m d (b := h') (by decide), V3_of m d (b := b') (by decide), V3_of m d (b := a0') (by decide), V3_of m d (b := a1') (by decide),
    V3_of m d (b := a2') (by decide), V3_of m d (b := a3') (by decide), V3_of m d (b := r') (by decide),
    V2_h, V2_b, V2_of m d (r := main_arg0) (by decide) (by decide), V2_of m d (r := main_arg1) (by decide) (by decide),
    V2_of m d (r := main_arg2) (by decide) (by decide), V2_of m d (r := main_arg3) (by decide) (by decide), V2_of m d (r := main_v3) (by decide) (by decide)]
  rfl

/-- `main` on device `d`'s TensorCore: the two reshapes, the call, the reshape of its result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opH) (S := S8') hH (V := V0 m d)) $$ [Hb Hheld]
  · isplitl [Hb] <;> iassumption
  iintro ⟨Hb, Hheld⟩
  rw [wp_ret]; imodintro
  iapply (wp_hlo_within 𝒱 (SparseCore.T d) none Set.univ (op := opB) (S := S8') hB (V := (opH (F := F)).result (V0 m d))) $$ [Hb Hheld]
  · isplitl [Hb] <;> iassumption
  iintro ⟨Hb, Hheld⟩
  rw [wp_ret]; imodintro
  ihave Hh := (show (held (T d) S8' ((opB (F := F)).result ((opH (F := F)).result (V0 m d))) : sProp 𝕄) ⊢ _ from Entails.of_eq (held_before (F := F) m d)) $$ Hheld
  icases Hh with ⟨H0, Hp, H2, H3, Hh, Hbuf, Ho, Hr⟩
  iapply ((K (F := F)).wp_run (D (F := F)) 𝒱 (EH := EH) (P := P m) κ d 0) $$ [Hst H0 Hp H2 H3 Hh Hbuf Ho Hr Hb Hts]
  isplitr; · iexact Hctx
  isplitl [Hst]; · iexact Hst
  isplitl [Hh Hp Hbuf Ho]
  · rw [st0_eq]
    isplitl [Hh]; · iexact Hh
    isplitl [Hp]; · iexact Hp
    isplitl [Hbuf]; · iexact Hbuf
    iexact Ho
  iintro ⟨Hst, Hdn⟩
  ihave Hdn' := (Entails.of_eq (dn0_eq m d)) $$ Hdn
  icases Hdn' with ⟨Hh, Hp, Hbuf, Ho⟩
  iapply (wp_hlo_within 𝒱 (SparseCore.T d) none Set.univ (op := opR) (S := S8') hR (V := V3 m d)) $$ [Hb H0 Hp H2 H3 Hh Hbuf Ho Hr]
  · isplitl [Hb]; · iexact Hb
    rw [held_after]
    isplitl [H0]; · iexact H0
    isplitl [Hp]; · iexact Hp
    isplitl [H2]; · iexact H2
    isplitl [H3]; · iexact H3
    isplitl [Hh]; · iexact Hh
    isplitl [Hbuf]; · iexact Hbuf
    isplitl [Ho]; · iexact Ho
    iexact Hr
  iintro ⟨Hb, Hheld⟩
  ihave Hfin := (show (held (T d) S8' ((opR (F := F)).result (V3 m d)) : sProp 𝕄) ⊢ FIN m d from fin_of_held m d) $$ Hheld
  rw [wp_ret]; imodintro; imodintro
  isplitl [Hst]; · iexact Hst
  isplitr [Hb Hts]
  · iexact Hfin
  isplitl [Hb] <;> iassumption

/-! ## The program's run -/

/-- What one device's memory holds at the end. -/
def fq (d : Dev nD) (s' : Phys nD τ sig (Elt F)) : Prop :=
  s'.mem.mem (rLoc d) = resM m d ∧ s'.mem.mem (aLoc0 d) = m (aLoc0 d) ∧ s'.mem.mem (pLoc d) = m (pLoc d) ∧ s'.mem.mem (aLoc2 d) = m (aLoc2 d) ∧ s'.mem.mem (aLoc3 d) = m (aLoc3 d)

theorem read_whole (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx => ⟨
    ((sep_mono_left (sep_elim_right.trans (sep_elim_right.trans (sep_elim_right.trans sep_elim_right)))).trans (read_whole (rLoc d) _ s')) x hx,
    ((sep_mono_left sep_elim_left).trans (read_whole (aLoc0 d) _ s')) x hx,
    ((sep_mono_left (sep_elim_right.trans sep_elim_left)).trans (read_whole (pLoc d) _ s')) x hx,
    ((sep_mono_left (sep_elim_right.trans (sep_elim_right.trans sep_elim_left))).trans (read_whole (aLoc2 d) _ s')) x hx,
    ((sep_mono_left (sep_elim_right.trans (sep_elim_right.trans (sep_elim_right.trans sep_elim_left)))).trans (read_whole (aLoc3 d) _ s')) x hx⟩

/-- The end of a run: on every device the result at its value and the arguments unchanged; every semaphore at zero. -/
def QC : PUnit × MemSt nD τ sig (Elt F) → Prop := fun r =>
  (∀ c : Dev nD, r.2.mem (rLoc c) = resM m c ∧ r.2.mem (aLoc0 c) = m (aLoc0 c) ∧ r.2.mem (pLoc c) = m (pLoc c) ∧ r.2.mem (aLoc2 c) = m (aLoc2 c) ∧ r.2.mem (aLoc3 c) = m (aLoc3 c))
    ∧ r.2.sem = fun _ => 0

/-- Every weakly fair run of the program ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m) (fun _ h hz => ⟨h, hz⟩)

end Cert.Proof.Roll
-- ==== Proof.Word.lean ====
/-
  The slot on one word: the host's remainder by 16, as it prints, is the word's low four bits.
-/
module

public import Idealize.ShloMosaic.Lib.WordCmp
public import Idealize.ShloMosaic.PureOps

@[expose] public section

namespace Cert.Proof.Roll

open Idealize.ShloMosaic Idealize.ShloMosaic.WordCmp

/-- The divisor as the host guards it against zero. -/
def divisor : BitVec 32 := Scalar.select (IntOp.cmpi .eq 16#32 0#32) 1#32 16#32

/-- The host's remainder by 16 of one word: the truncated one, moved up by 16 where its sign is not the divisor's. -/
def hostRem (p : BitVec 32) : BitVec 32 :=
  Scalar.select (IntOp.andi (IntOp.cmpi .ne (IntOp.cmpi .slt (IntOp.remsi .host p divisor) 0#32) (IntOp.cmpi .slt divisor 0#32)) (IntOp.cmpi .ne (IntOp.remsi .host p divisor) 0#32))
    (IntOp.addi (IntOp.remsi .host p divisor) divisor) (IntOp.remsi .host p divisor)

/-- An index word as the host wraps it: moved up by the extent where negative. -/
def wrapWord (n w : BitVec 32) : BitVec 32 := Scalar.select (IntOp.cmpi .slt w 0#32) (IntOp.addi w n) w

/-- The truncated remainder by 16 of a word, read signed. -/
theorem rem16_toInt (p : BitVec 32) : (IntOp.remsi .host p divisor).toInt = p.toInt.tmod 16 := by
  have hc : ¬ IntOp.SDivCorner p divisor := by
    rw [show divisor = 16#32 by decide]
    unfold IntOp.SDivCorner
    rintro (h | ⟨-, h⟩) <;> exact absurd h (by decide)
  unfold IntOp.remsi
  rw [if_neg hc, show divisor = 16#32 by decide, BitVec.toInt_srem]
  rfl

/-- The low four bits of a word are its remainder by 16. -/
theorem and15_toNat (p : BitVec 32) : (p &&& 15#32).toNat = p.toNat % 16 := by
  rw [BitVec.toNat_and]; exact Nat.and_two_pow_sub_one_eq_mod p.toNat 4

/-- The host's remainder by 16 is the word's low four bits. -/
theorem hostRem_eq (p : BitVec 32) : hostRem p = p &&& 15#32 := by
  have hr := rem16_toInt p
  unfold hostRem
  generalize IntOp.remsi .host p divisor = r at hr
  rw [show divisor = 16#32 by decide, show IntOp.cmpi .slt 16#32 0#32 = BitVec.ofBool false by decide, cmpi_slt_eq, cmpi_ne_eq, cmpi_ne_eq, andi_ofBool]
  have hp := p.isLt
  have hpi := BitVec.toInt_eq_toNat_cond p
  have hri := BitVec.toInt_eq_toNat_cond r
  have hrl := r.isLt
  have h0 : (0#32).toInt = 0 := rfl
  have hm : p.toInt.tmod 16 = if 0 ≤ p.toInt then p.toInt % 16 else -((-p.toInt) % 16) := by
    split
    · next h => exact Int.tmod_eq_emod_of_nonneg h
    · next h =>
      have e : p.toInt.tmod 16 = -((-p.toInt).tmod 16) := by rw [Int.neg_tmod, Int.neg_neg]
      rw [e, Int.tmod_eq_emod_of_nonneg (by omega)]
  have hz : r = 0#32 ↔ r.toNat = 0 := ⟨fun h => by rw [h]; rfl, fun h => BitVec.eq_of_toNat_eq h⟩
  apply BitVec.eq_of_toNat_eq
  rw [and15_toNat]
  unfold Scalar.select
  by_cases hneg : r.toInt < 0
  · rw [if_pos]
    · show (r + 16#32).toNat = _
      rw [BitVec.toNat_add, show (16#32).toNat = 16 from rfl]
      split at hm <;> split at hpi <;> split at hri <;> omega
    · rw [h0]
      have hnz : r ≠ 0#32 := fun h => by rw [h] at hneg; exact absurd hneg (by decide)
      simp [hneg, hnz]
  · rw [if_neg]
    · split at hm <;> split at hpi <;> split at hri <;> omega
    · rw [h0]; simp [hneg]

/-- A word that is not negative is wrapped to itself. -/
theorem wrapWord_of_lt (n w : BitVec 32) (h : w.toNat < 2 ^ 31) : wrapWord n w = w := by
  unfold wrapWord Scalar.select
  rw [cmpi_slt_eq, if_neg]
  rw [toInt_eq_toNat_of_lt_half h, decide_eq_false (show ¬ (w.toNat : Int) < (0#32).toInt from Int.not_lt.2 (Int.natCast_nonneg _))]
  decide

end Cert.Proof.Roll
-- ==== Proof.Reference.lean ====
/-
  The reference's result at an index: its scatter, under the precondition that the sequence ids are in order, puts
  batch row `b`'s new state in slot `pos b mod 16` and leaves the rest of the buffer.
-/
module

public import proofs.«01_k».proof.Proof.Word
public import proofs.«01_k».proof.Proof.Gen.ReferenceIdeal.Run
public import proofs.«01_k».proof.Proof.Gen.Pre_seq_ids_in_order
public import Idealize.ShloMosaic.Lib.Routing.OpsSet
public import Idealize.ShloMosaic.Lib.ReduceAll
public import Idealize.ShloMosaic.Lib.Pipeline.Value

@[expose] public section

noncomputable section

namespace Cert.Proof.Roll

open Cert.ReferenceIdeal Cert.ReferenceIdeal.Gen Idealize.ShloMosaic Idealize.ShloMosaic.TcCoe Idealize.SL.Sem
open Idealize.ShloMosaic.Routing (resultIdx?_eq_some scatter_set_hit scatter_set_miss)

/-! ## Where an update lands -/

/-- The scatter's dimension numbers: index pairs into the first two axes, whole rows of 4096. -/
abbrev dimsR : ScatterDims S128x16x4096 S128x2 S128x4096 := scatter_S128x16x4096_S128x2_S128x4096_1_01_01_1

theorem siIdx_fst (k : S128x4096.Idx) (h : 0 < dimsR.scatterDimsToOperandDims.length) : dimsR.siIdx k ⟨0, h⟩ = Shape.pair (d := ![128, 2]) (k 0 : Fin 128) (0 : Fin 2) :=
  funext fun b => Fin.ext (by match b with | ⟨0, _⟩ => rfl | ⟨1, _⟩ => rfl)
theorem siIdx_snd (k : S128x4096.Idx) (h : 1 < dimsR.scatterDimsToOperandDims.length) : dimsR.siIdx k ⟨1, h⟩ = Shape.pair (d := ![128, 2]) (k 0 : Fin 128) (1 : Fin 2) :=
  funext fun b => Fin.ext (by match b with | ⟨0, _⟩ => rfl | ⟨1, _⟩ => rfl)

theorem start_fst (k : S128x4096.Idx) (idx : IVec S128x2 32) : dimsR.start k idx 0 = (idx (Shape.pair (d := ![128, 2]) (k 0 : Fin 128) (0 : Fin 2))).toInt :=
  (dif_pos (show (0 : Fin 3) ∈ ([0, 1] : List (Fin 3)) by decide)).trans (congrArg (fun t => (idx t).toInt) (siIdx_fst k (by decide)))
theorem start_snd (k : S128x4096.Idx) (idx : IVec S128x2 32) : dimsR.start k idx 1 = (idx (Shape.pair (d := ![128, 2]) (k 0 : Fin 128) (1 : Fin 2))).toInt :=
  (dif_pos (show (1 : Fin 3) ∈ ([0, 1] : List (Fin 3)) by decide)).trans (congrArg (fun t => (idx t).toInt) (siIdx_snd k (by decide)))
theorem start_col (k : S128x4096.Idx) (idx : IVec S128x2 32) : dimsR.start k idx 2 = 0 :=
  dif_neg (show ¬ (2 : Fin 3) ∈ ([0, 1] : List (Fin 3)) by decide)

theorem window_fst (k : S128x4096.Idx) : dimsR.window k 0 = 0 := rfl
theorem window_snd (k : S128x4096.Idx) : dimsR.window k 1 = 0 := rfl
theorem window_col (k : S128x4096.Idx) : dimsR.window k 2 = (k 1).val := rfl

/-- Update `k` lands at `y` when its row's index pair, read signed, is `y`'s first two coordinates and its column `y`'s. -/
theorem lands (k : S128x4096.Idx) (idx : IVec S128x2 32) (y : S128x16x4096.Idx) :
    dimsR.resultIdx? k idx = some y ↔ (idx (Shape.pair (d := ![128, 2]) (k 0 : Fin 128) (0 : Fin 2))).toInt = (y 0).val
      ∧ (idx (Shape.pair (d := ![128, 2]) (k 0 : Fin 128) (1 : Fin 2))).toInt = (y 1).val ∧ (k 1).val = (y 2).val := by
  rw [resultIdx?_eq_some, Fin.forall_fin_succ, Fin.forall_fin_two]
  show (dimsR.start k idx 0 + (dimsR.window k 0 : Int) = _ ∧ dimsR.start k idx 1 + (dimsR.window k 1 : Int) = _ ∧ dimsR.start k idx 2 + (dimsR.window k 2 : Int) = _) ↔ _
  rw [start_fst, start_snd, start_col, window_fst, window_snd, window_col]
  show (_ ∧ _ ∧ (0 : Int) + ((k 1).val : Int) = ((y 2).val : Int)) ↔ _
  simp only [Nat.cast_zero, add_zero, zero_add, Nat.cast_inj]
  rfl

/-- The scatter of rows under index pairs (row, slot), each slot below 16: row `b`'s slot holds its update, every other
    element the operand's. -/
theorem scatter_rows {A : Type} (x : S128x16x4096.Idx → A) (idx : IVec S128x2 32) (upd : S128x4096.Idx → A) (slot : Fin 128 → Nat)
    (h0 : ∀ b : Fin 128, (idx (Shape.pair (d := ![128, 2]) b (0 : Fin 2))).toInt = b.val)
    (h1 : ∀ b : Fin 128, (idx (Shape.pair (d := ![128, 2]) b (1 : Fin 2))).toInt = slot b) (y : S128x16x4096.Idx) :
    Host.scatter dimsR (fun _ b => b) x idx upd y
      = if slot (y 0) = (y 1).val then upd (Shape.pair (d := ![128, 4096]) (y 0 : Fin 128) (y 2 : Fin 4096)) else x y := by
  have hl : ∀ k : S128x4096.Idx, dimsR.resultIdx? k idx = some y ↔ k = Shape.pair (d := ![128, 4096]) (y 0 : Fin 128) (y 2 : Fin 4096) ∧ slot (y 0) = (y 1).val := by
    intro k
    have e0 := h0 (k 0)
    have e1 := h1 (k 0)
    rw [lands]
    constructor
    · rintro ⟨a, b, c⟩
      have a' : (k 0 : Fin 128) = y 0 := Fin.ext (Int.ofNat_inj.1 (e0.symm.trans a))
      have b' : slot (k 0) = (y 1).val := Int.ofNat_inj.1 (e1.symm.trans b)
      refine ⟨funext fun t => ?_, by rw [← a']; exact b'⟩
      match t with
      | ⟨0, _⟩ => exact a'
      | ⟨1, _⟩ => exact Fin.ext c
    · rintro ⟨rfl, b⟩
      exact ⟨e0, e1.trans (congrArg (Nat.cast : Nat → Int) b), rfl⟩
  by_cases h : slot (y 0) = (y 1).val
  · rw [if_pos h]
    exact scatter_set_hit dimsR x idx upd y _ (fun k hk => congrArg upd ((hl k).1 hk).1) _ ((hl _).2 ⟨rfl, h⟩)
  · rw [if_neg h]
    exact scatter_set_miss dimsR x idx upd y fun k hk => h ((hl k).1 hk).2

/-! ## The index pairs -/

/-- A column of words under the words of a vector. -/
abbrev col (v : IVec S128 32) : IVec S128x1 32 := broadcastInDim S128x1 ![0] bcast_S128_S128x1_0 v

theorem col_apply (v : IVec S128 32) (b : Fin 128) : col v (Shape.pair (d := ![128, 1]) b (0 : Fin 1)) = v (Shape.ofLane (d := ![128]) b) :=
  congrArg v (funext fun a => Fin.ext (by match a with | ⟨0, _⟩ => rfl))

abbrev pairsOf (u v : IVec S128 32) : IVec S128x2 32 := concatenate S128x2 1 [⟨S128x1, col u⟩, ⟨S128x1, col v⟩] concatenates_S128x1_S128x1_S128x2_d1

theorem pairs_fst (u v : IVec S128 32) (b : Fin 128) : pairsOf u v (Shape.pair (d := ![128, 2]) b (0 : Fin 2)) = u (Shape.ofLane (d := ![128]) b) :=
  (concatenate_pair_apply_left (t := S128x2) (s₁ := S128x1) (s₂ := S128x1) 1 _ _ _ _ rfl (Shape.pair (d := ![128, 1]) b (0 : Fin 1)) (fun a => by
    match a with | ⟨0, _⟩ => rfl | ⟨1, _⟩ => rfl)).trans (col_apply u b)
theorem pairs_snd (u v : IVec S128 32) (b : Fin 128) : pairsOf u v (Shape.pair (d := ![128, 2]) b (1 : Fin 2)) = v (Shape.ofLane (d := ![128]) b) :=
  (concatenate_pair_apply_right (t := S128x2) (s₁ := S128x1) (s₂ := S128x1) 1 _ _ _ _ rfl rfl (Shape.pair (d := ![128, 1]) b (0 : Fin 1)) (fun a ha => by
    match a with | ⟨0, _⟩ => rfl | ⟨1, _⟩ => exact absurd rfl ha) rfl).trans (col_apply v b)

/-! ## The result -/

variable {F : FTy → Type} [FloatOps F]

/-- The ids and the positions, as vectors of words. -/
abbrev idsR (m : (ℓ : Loc nD τ sig) → Buf (Elt F) ℓ) (c : Dev nD) : IVec S128 32 := m ((c.tc : Thread nD τ).loc main_arg0)
abbrev posR (m : (ℓ : Loc nD τ sig) → Buf (Elt F) ℓ) (c : Dev nD) : IVec S128 32 := m ((c.tc : Thread nD τ).loc main_arg1)

/-- The reference's result as a scatter under pairs of words, one function of each id and one of each position. -/
theorem res_eq (m : (ℓ : Loc nD τ sig) → Buf (Elt F) ℓ) (c : Dev nD) :
    Value.res_main_v15 m c = Host.scatter dimsR (fun _ b => b) (m ((c.tc : Thread nD τ).loc main_arg3))
      (pairsOf (fun i => wrapWord 128#32 (idsR m c i)) (fun i => wrapWord 16#32 (hostRem (posR m c i))))
      (shapeCast S128x4096 (m ((c.tc : Thread nD τ).loc main_arg2)) shapeCasts_S128x1x4096_S128x4096) := rfl

/-- The reference's result at an index, where the sequence ids are in order: row `b`'s new state in slot `pos b mod 16`, the
    buffer elsewhere. -/
theorem res_apply (m : (ℓ : Loc nD τ sig) → Buf (Elt F) ℓ) (c : Dev nD)
    (hseq : ∀ b : Fin 128, idsR m c (Shape.ofLane (d := ![128]) b) = BitVec.ofNat 32 b.val) (y : S128x16x4096.Idx) :
    Value.res_main_v15 m c y
      = if (posR m c (Shape.ofLane (d := ![128]) (y 0 : Fin 128)) &&& 15#32).toNat = (y 1).val
        then shapeCast S128x4096 (m ((c.tc : Thread nD τ).loc main_arg2)) shapeCasts_S128x1x4096_S128x4096 (Shape.pair (d := ![128, 4096]) (y 0 : Fin 128) (y 2 : Fin 4096))
        else m ((c.tc : Thread nD τ).loc main_arg3) y := by
  rw [res_eq]
  refine scatter_rows _ _ _ (fun b => (posR m c (Shape.ofLane (d := ![128]) b) &&& 15#32).toNat) (fun b => ?_) (fun b => ?_) y
  · rw [pairs_fst]
    have hb : (BitVec.ofNat 32 b.val).toNat = b.val := WordCmp.toNat_ofNat_of_lt (by omega)
    rw [hseq, wrapWord_of_lt _ _ (by omega), WordCmp.toInt_ofNat_of_lt (by omega)]
  · rw [pairs_snd]
    have h15 := and15_toNat (posR m c (Shape.ofLane (d := ![128]) b))
    have hlt : (posR m c (Shape.ofLane (d := ![128]) b) &&& 15#32).toNat < 2 ^ 31 := by rw [h15]; omega
    rw [hostRem_eq, wrapWord_of_lt _ _ hlt]
    exact WordCmp.toInt_eq_toNat_of_lt_half hlt

/-- What the precondition says: sequence id `b` is `b`. -/
theorem seq_of_pre (x0 x1 : IVec S128 32) (x2 : FVec F S128x1x4096 .f32) (x3 : FVec F S128x16x4096 .f32)
    (h : Cert.Pre_seq_ids_in_order.fn (F := F) x0 x1 x2 x3 = fun _ => 1#1) (b : Fin 128) : x0 (Shape.ofLane (d := ![128]) b) = BitVec.ofNat 32 b.val := by
  haveI : Subsingleton Cert.Pre_seq_ids_in_order.S_.Idx := ⟨fun a b => funext fun i => i.elim0⟩
  have e := Host.reduce_andi_all _ _ _ _ (fun i => i.elim0) (congrFun h fun i => i.elim0) (Shape.ofLane (d := ![128]) b)
  have e' : IntOp.cmpi .eq (x0 (Shape.ofLane (d := ![128]) b)) (BitVec.ofNat 32 b.val) = 1#1 := e
  rw [WordCmp.cmpi_eq_eq, WordCmp.ofBool_decide_eq_one_iff] at e'
  exact e'

end Cert.Proof.Roll
-- ==== Proof.Value.lean ====
/-
  The value: the kernel's result at an index, and its equality with the reference's.
-/
module

public import proofs.«01_k».proof.Proof.Launch
public import proofs.«01_k».proof.Proof.Reference

@[expose] public section

noncomputable section

namespace Cert.Proof.Roll

open Cert.KernelIdeal Cert.KernelIdeal.Gen Idealize.ShloMosaic Idealize.ShloMosaic.TcCoe Idealize.SL.Sem

variable {F : FTy → Type} [FloatOps F]

/-- Row `16 b + s` of the flat buffer is slot `s` of row `b`. -/
theorem flat_row {A : Type} (v : S2048x4096.Idx → A) (y : S128x16x4096.Idx) (h : 16 * (y 0).val + (y 1).val < 2048) :
    shapeCast S128x16x4096 v shapeCasts_S2048x4096_S128x16x4096 y = v (Shape.pair (d := ![2048, 4096]) (⟨16 * (y 0).val + (y 1).val, h⟩ : Fin 2048) (y 2 : Fin 4096)) :=
  shapeCast_apply v _ y _ ((Shape.rowMajor_pair_val (d := ![2048, 4096]) _ _).trans
    (Eq.trans (show (16 * (y 0).val + (y 1).val) * 4096 + (y 2).val = ((y 0).val * 16 + (y 1).val) * 4096 + (y 2).val by ring)
      (Shape.rowMajor_val_three (d := ![128, 16, 4096]) y).symm))

/-- What the call leaves at row `r` of the flat buffer, `b` the batch row it belongs to. -/
theorem outVal_at {A : Type} (pos : IVec S128 32) (hs : S128x4096.Idx → A) (buf : S2048x4096.Idx → A) (r : Fin 2048) (c : Fin 4096) (b : Fin 128) (hb : b.val = r.val / 16) :
    outVal pos hs buf (Shape.pair (d := ![2048, 4096]) r c)
      = if (pos (Shape.ofLane (d := ![128]) b) &&& 15#32).toNat = r.val % 16 then hs (Shape.pair (d := ![128, 4096]) b c) else buf (Shape.pair (d := ![2048, 4096]) r c) := by
  have hr := r.isLt
  have eb : b = ⟨r.val / 16, by omega⟩ := Fin.ext hb
  rw [eb]
  rfl

/-- The kernel's result at an index: row `b`'s new state in the slot its position names, the buffer elsewhere. -/
theorem resM_apply (m : (ℓ : Loc nD τ sig) → Buf (Elt F) ℓ) (d : Dev nD) (y : S128x16x4096.Idx) :
    resM m d y = if ((posM m d : IVec S128 32) (Shape.ofLane (d := ![128]) (y 0 : Fin 128)) &&& 15#32).toNat = (y 1).val
      then hsM m d (Shape.pair (d := ![128, 4096]) (y 0 : Fin 128) (y 2 : Fin 4096)) else m (aLoc3 d) y := by
  have h0 : (y 0).val < 128 := (y 0).isLt
  have h1 : (y 1).val < 16 := (y 1).isLt
  have h : 16 * (y 0).val + (y 1).val < 2048 := by omega
  have hb : shapeCast S128x16x4096 (bufM m d) shapeCasts_S2048x4096_S128x16x4096 y = m (aLoc3 d) y :=
    congrFun (shapeCast_shapeCast _ _ _) y
  rw [← hb, flat_row _ y h]
  refine (flat_row (outM m d) y h).trans ?_
  refine (outVal_at (posM m d) (hsM m d) (bufM m d) ⟨_, h⟩ (y 2) (y 0) (show (y 0).val = (16 * (y 0).val + (y 1).val) / 16 by omega)).trans ?_
  show (if _ = (16 * (y 0).val + (y 1).val) % 16 then _ else _) = _
  rw [show (16 * (y 0).val + (y 1).val) % 16 = (y 1).val by omega]

end Cert.Proof.Roll
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value
public import proofs.«01_k».proof.Proof.Gen.Pre_seq_ids_in_order
public import Idealize.ShloMosaic.Adequacy
public import Idealize.ShloMosaic.Init

@[expose] public section

noncomputable section

namespace Cert.Proof

open Idealize.ShloMosaic Idealize.ShloMosaic.TcCoe Idealize.SL.Sem

/-- The kernel as printed runs, leaves its four arguments as they were and every counter at zero. -/
theorem frame_Kernel : Cert.quiescent_Kernel := fun m ρ _ =>
  (θ_run (Cert.KernelIdeal.defs (F := Bits)) _ _).mono (fun _ h => ⟨fun c => (h.1 c).2, h.2⟩) (Roll.run_main (F := Bits) m ρ)

/-- The same of its ideal reading. -/
theorem frame_KernelIdeal : Cert.quiescent_KernelIdeal := fun m ρ _ =>
  (θ_run (Cert.KernelIdeal.defs (F := Ideal)) _ _).mono (fun _ h => ⟨fun c => (h.1 c).2, h.2⟩) (Roll.run_main (F := Ideal) m ρ)

/-- The same under the precondition of the value claim, which the frame does not need. -/
theorem frame_KernelIdeal_pre : Cert.quiescent_KernelIdeal_pre_seq_ids_in_order := fun m ρ _ =>
  frame_KernelIdeal m ρ True.intro

/-- The reference runs, leaves its four arguments as they were, and has no semaphore to leave nonzero. -/
theorem frame_Reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The same under the precondition of the value claim. -/
theorem frame_Reference_pre : Cert.quiescent_ReferenceIdeal_pre_seq_ids_in_order := fun m ρ _ =>
  frame_Reference m ρ True.intro

/-- From the same arguments, the sequence numbers counting up from zero, the reference's result is the kernel's: at
    sequence `b`, slot `s`, column `j` each holds the hidden state's element if `s` is the position modulo sixteen and
    the buffer's otherwise. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_seq_ids_in_order m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Value.res_main_v15 (F := Ideal) m' c = Roll.resM (F := Ideal) m c := by
  have hseq : ∀ b : Fin 128, Roll.idsR (F := Ideal) m' c (Shape.ofLane (d := ![128]) b) = BitVec.ofNat 32 b.val := fun b =>
    (congrFun h0 (Shape.ofLane (d := ![128]) b)).trans (Roll.seq_of_pre (F := Ideal) _ _ _ _ (hpre c) b)
  have hp : Roll.posR (F := Ideal) m' c = Roll.posM (F := Ideal) m c := h1
  funext y
  refine (Roll.res_apply (F := Ideal) m' c hseq y).trans (Eq.trans ?_ (Roll.resM_apply (F := Ideal) m c y).symm)
  rw [hp, h2, h3]
  rfl

/-- The value claim: the two results are equal, element by element. -/
theorem algebraic : Cert.algebraic_KernelIdeal_ReferenceIdeal_pre_seq_ids_in_order := by
  intro m ρ m' ρ' hpre hagree
  refine ⟨fun c => Roll.resM (F := Ideal) m c, (θ_run (Cert.KernelIdeal.defs (F := Ideal)) _ _).mono (fun _ h c => h.1 c)
    (Roll.run_main (F := Ideal) m ρ), ?_⟩
  refine (θ_run (Cert.ReferenceIdeal.defs (F := Ideal)) _ _).mono (fun _ h c => ⟨(h c).1.trans ?_, (h c).2⟩)
    (Cert.ReferenceIdeal.Value.run (F := Ideal) m' ρ')
  exact same_result m m' hpre c (hagree c).1 (hagree c).2.1 (hagree c).2.2.1 (hagree c).2.2.2

theorem claim : Cert.Claim :=
  ⟨Cert.Kernel.Gen.facts, Cert.KernelIdeal.Gen.facts, Cert.ReferenceIdeal.Gen.facts, Cert.Pre_seq_ids_in_order.Gen.facts,
    frame_Kernel, frame_KernelIdeal, frame_KernelIdeal_pre, frame_Reference, frame_Reference_pre, True.intro, algebraic⟩

end Cert.Proof

end
